-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x128x64 : Shape := ⟨4, ![2, 128, 128, 64]⟩
abbrev S256x512 : Shape := ⟨2, ![256, 512]⟩
abbrev S2x128x8192 : Shape := ⟨3, ![2, 128, 8192]⟩
abbrev S256x256 : Shape := ⟨2, ![256, 256]⟩
abbrev S31x8x512 : Shape := ⟨3, ![31, 8, 512]⟩
abbrev S8x512 : Shape := ⟨2, ![8, 512]⟩
abbrev S2x2x128x256 : Shape := ⟨4, ![2, 2, 128, 256]⟩
abbrev S31 : Shape := ⟨1, ![31]⟩
abbrev S4 : Shape := ⟨1, ![4]⟩
abbrev S_ : Shape := ⟨0, ![]⟩
abbrev S1 : Shape := ⟨1, ![1]⟩
abbrev S1x1x128x256 : Shape := ⟨4, ![1, 1, 128, 256]⟩
abbrev S128x256 : Shape := ⟨2, ![128, 256]⟩
abbrev S1x128x256 : Shape := ⟨3, ![1, 128, 256]⟩
abbrev S128x128 : Shape := ⟨2, ![128, 128]⟩
abbrev S128x64 : Shape := ⟨2, ![128, 64]⟩
abbrev S128 : Shape := ⟨1, ![128]⟩
abbrev S128x1 : Shape := ⟨2, ![128, 1]⟩
abbrev S1x8x512 : Shape := ⟨3, ![1, 8, 512]⟩

abbrev nBuf : Space → Nat
  | .hbm => 9
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x128x64, .f32⟩
  | .hbm, ⟨3, _⟩ => ⟨S2x128x128x64, .f32⟩
  | .hbm, ⟨4, _⟩ => ⟨S256x512, .f32⟩
  | .hbm, ⟨5, _⟩ => ⟨S2x128x8192, .f32⟩
  | .hbm, ⟨6, _⟩ => ⟨S2x128x8192, .f32⟩
  | .hbm, ⟨7, _⟩ => ⟨S256x512, .f32⟩
  | .hbm, ⟨8, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x512, .f32⟩
  | .local _ .vmem, ⟨6, _⟩ => ⟨S31x8x512, .f32⟩
  | .local _ .vmem, ⟨7, _⟩ => ⟨S8x512, .f32⟩
  | .local _ .vmem, ⟨8, _⟩ => ⟨S2x2x128x256, .f32⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let c0_i32_124 : BitVec 32 := 0#32
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v128 : BitVec 32 := Scalar.muli v2 c256_i32
  ![0, 0, v128.toNat]
def k0_off2 (d0 : Dev nD) : Fin 3 → Nat :=
  let c1_i32_132 : BitVec 32 := 1#32
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_131 : BitVec 32 := 256#32
  let v135 : BitVec 32 := Scalar.muli v2 c256_i32_131
  ![1, 0, v135.toNat]
def k0_off3 (d0 : Dev nD) (c1_i32_296 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v454 : BitVec 32 := Scalar.addi v2 c1_i32_296
  let c32_i32_297 : BitVec 32 := 32#32
  let v455 : BitVec 32 := Scalar.remsi v454 c32_i32_297
  let c8_i32_298 : BitVec 32 := 8#32
  let v456 : BitVec 32 := Scalar.muli v455 c8_i32_298
  let c0_i32_306 : BitVec 32 := 0#32
  ![v456.toNat, 0]
def k0_dev32 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_296 : BitVec 32 := 1#32
  let v454 : BitVec 32 := Scalar.addi v2 c1_i32_296
  let c32_i32_297 : BitVec 32 := 32#32
  let v455 : BitVec 32 := Scalar.remsi v454 c32_i32_297
  let c1_i32_302 : BitVec 32 := 1#32
  let v457 : BitVec 32 := Scalar.muli v455 c1_i32_302
  let v458 : BitVec 32 := Scalar.addi c0_i32_303 v457
  v458.toNat
def k0_dev33 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_307 : BitVec 32 := 2#32
  let v466 : BitVec 32 := Scalar.addi v2 c2_i32_307
  let c32_i32_308 : BitVec 32 := 32#32
  let v467 : BitVec 32 := Scalar.remsi v466 c32_i32_308
  let c1_i32_313 : BitVec 32 := 1#32
  let v469 : BitVec 32 := Scalar.muli v467 c1_i32_313
  let v470 : BitVec 32 := Scalar.addi c0_i32_314 v469
  v470.toNat
def k0_dev34 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_318 : BitVec 32 := 3#32
  let v478 : BitVec 32 := Scalar.addi v2 c3_i32_318
  let c32_i32_319 : BitVec 32 := 32#32
  let v479 : BitVec 32 := Scalar.remsi v478 c32_i32_319
  let c1_i32_324 : BitVec 32 := 1#32
  let v481 : BitVec 32 := Scalar.muli v479 c1_i32_324
  let v482 : BitVec 32 := Scalar.addi c0_i32_325 v481
  v482.toNat
def k0_dev35 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_329 : BitVec 32 := 4#32
  let v490 : BitVec 32 := Scalar.addi v2 c4_i32_329
  let c32_i32_330 : BitVec 32 := 32#32
  let v491 : BitVec 32 := Scalar.remsi v490 c32_i32_330
  let c1_i32_335 : BitVec 32 := 1#32
  let v493 : BitVec 32 := Scalar.muli v491 c1_i32_335
  let v494 : BitVec 32 := Scalar.addi c0_i32_336 v493
  v494.toNat
def k0_dev36 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_340 : BitVec 32 := 5#32
  let v502 : BitVec 32 := Scalar.addi v2 c5_i32_340
  let c32_i32_341 : BitVec 32 := 32#32
  let v503 : BitVec 32 := Scalar.remsi v502 c32_i32_341
  let c1_i32_346 : BitVec 32 := 1#32
  let v505 : BitVec 32 := Scalar.muli v503 c1_i32_346
  let v506 : BitVec 32 := Scalar.addi c0_i32_347 v505
  v506.toNat
def k0_dev37 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_351 : BitVec 32 := 6#32
  let v514 : BitVec 32 := Scalar.addi v2 c6_i32_351
  let c32_i32_352 : BitVec 32 := 32#32
  let v515 : BitVec 32 := Scalar.remsi v514 c32_i32_352
  let c1_i32_357 : BitVec 32 := 1#32
  let v517 : BitVec 32 := Scalar.muli v515 c1_i32_357
  let v518 : BitVec 32 := Scalar.addi c0_i32_358 v517
  v518.toNat
def k0_dev38 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_362 : BitVec 32 := 7#32
  let v526 : BitVec 32 := Scalar.addi v2 c7_i32_362
  let c32_i32_363 : BitVec 32 := 32#32
  let v527 : BitVec 32 := Scalar.remsi v526 c32_i32_363
  let c1_i32_368 : BitVec 32 := 1#32
  let v529 : BitVec 32 := Scalar.muli v527 c1_i32_368
  let v530 : BitVec 32 := Scalar.addi c0_i32_369 v529
  v530.toNat
def k0_dev39 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_373 : BitVec 32 := 8#32
  let v538 : BitVec 32 := Scalar.addi v2 c8_i32_373
  let c32_i32_374 : BitVec 32 := 32#32
  let v539 : BitVec 32 := Scalar.remsi v538 c32_i32_374
  let c1_i32_379 : BitVec 32 := 1#32
  let v541 : BitVec 32 := Scalar.muli v539 c1_i32_379
  let v542 : BitVec 32 := Scalar.addi c0_i32_380 v541
  v542.toNat
def k0_dev40 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_384 : BitVec 32 := 9#32
  let v550 : BitVec 32 := Scalar.addi v2 c9_i32_384
  let c32_i32_385 : BitVec 32 := 32#32
  let v551 : BitVec 32 := Scalar.remsi v550 c32_i32_385
  let c1_i32_390 : BitVec 32 := 1#32
  let v553 : BitVec 32 := Scalar.muli v551 c1_i32_390
  let v554 : BitVec 32 := Scalar.addi c0_i32_391 v553
  v554.toNat
def k0_dev41 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_395 : BitVec 32 := 10#32
  let v562 : BitVec 32 := Scalar.addi v2 c10_i32_395
  let c32_i32_396 : BitVec 32 := 32#32
  let v563 : BitVec 32 := Scalar.remsi v562 c32_i32_396
  let c1_i32_401 : BitVec 32 := 1#32
  let v565 : BitVec 32 := Scalar.muli v563 c1_i32_401
  let v566 : BitVec 32 := Scalar.addi c0_i32_402 v565
  v566.toNat
def k0_dev42 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_406 : BitVec 32 := 11#32
  let v574 : BitVec 32 := Scalar.addi v2 c11_i32_406
  let c32_i32_407 : BitVec 32 := 32#32
  let v575 : BitVec 32 := Scalar.remsi v574 c32_i32_407
  let c1_i32_412 : BitVec 32 := 1#32
  let v577 : BitVec 32 := Scalar.muli v575 c1_i32_412
  let v578 : BitVec 32 := Scalar.addi c0_i32_413 v577
  v578.toNat
def k0_dev43 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_417 : BitVec 32 := 12#32
  let v586 : BitVec 32 := Scalar.addi v2 c12_i32_417
  let c32_i32_418 : BitVec 32 := 32#32
  let v587 : BitVec 32 := Scalar.remsi v586 c32_i32_418
  let c1_i32_423 : BitVec 32 := 1#32
  let v589 : BitVec 32 := Scalar.muli v587 c1_i32_423
  let v590 : BitVec 32 := Scalar.addi c0_i32_424 v589
  v590.toNat
def k0_dev44 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_428 : BitVec 32 := 13#32
  let v598 : BitVec 32 := Scalar.addi v2 c13_i32_428
  let c32_i32_429 : BitVec 32 := 32#32
  let v599 : BitVec 32 := Scalar.remsi v598 c32_i32_429
  let c1_i32_434 : BitVec 32 := 1#32
  let v601 : BitVec 32 := Scalar.muli v599 c1_i32_434
  let v602 : BitVec 32 := Scalar.addi c0_i32_435 v601
  v602.toNat
def k0_dev45 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_439 : BitVec 32 := 14#32
  let v610 : BitVec 32 := Scalar.addi v2 c14_i32_439
  let c32_i32_440 : BitVec 32 := 32#32
  let v611 : BitVec 32 := Scalar.remsi v610 c32_i32_440
  let c1_i32_445 : BitVec 32 := 1#32
  let v613 : BitVec 32 := Scalar.muli v611 c1_i32_445
  let v614 : BitVec 32 := Scalar.addi c0_i32_446 v613
  v614.toNat
def k0_dev46 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_450 : BitVec 32 := 15#32
  let v622 : BitVec 32 := Scalar.addi v2 c15_i32_450
  let c32_i32_451 : BitVec 32 := 32#32
  let v623 : BitVec 32 := Scalar.remsi v622 c32_i32_451
  let c1_i32_456 : BitVec 32 := 1#32
  let v625 : BitVec 32 := Scalar.muli v623 c1_i32_456
  let v626 : BitVec 32 := Scalar.addi c0_i32_457 v625
  v626.toNat
def k0_dev47 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_461 : BitVec 32 := 16#32
  let v634 : BitVec 32 := Scalar.addi v2 c16_i32_461
  let c32_i32_462 : BitVec 32 := 32#32
  let v635 : BitVec 32 := Scalar.remsi v634 c32_i32_462
  let c1_i32_467 : BitVec 32 := 1#32
  let v637 : BitVec 32 := Scalar.muli v635 c1_i32_467
  let v638 : BitVec 32 := Scalar.addi c0_i32_468 v637
  v638.toNat
def k0_dev48 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_472 : BitVec 32 := 17#32
  let v646 : BitVec 32 := Scalar.addi v2 c17_i32_472
  let c32_i32_473 : BitVec 32 := 32#32
  let v647 : BitVec 32 := Scalar.remsi v646 c32_i32_473
  let c1_i32_478 : BitVec 32 := 1#32
  let v649 : BitVec 32 := Scalar.muli v647 c1_i32_478
  let v650 : BitVec 32 := Scalar.addi c0_i32_479 v649
  v650.toNat
def k0_dev49 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_483 : BitVec 32 := 18#32
  let v658 : BitVec 32 := Scalar.addi v2 c18_i32_483
  let c32_i32_484 : BitVec 32 := 32#32
  let v659 : BitVec 32 := Scalar.remsi v658 c32_i32_484
  let c1_i32_489 : BitVec 32 := 1#32
  let v661 : BitVec 32 := Scalar.muli v659 c1_i32_489
  let v662 : BitVec 32 := Scalar.addi c0_i32_490 v661
  v662.toNat
def k0_dev50 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_494 : BitVec 32 := 19#32
  let v670 : BitVec 32 := Scalar.addi v2 c19_i32_494
  let c32_i32_495 : BitVec 32 := 32#32
  let v671 : BitVec 32 := Scalar.remsi v670 c32_i32_495
  let c1_i32_500 : BitVec 32 := 1#32
  let v673 : BitVec 32 := Scalar.muli v671 c1_i32_500
  let v674 : BitVec 32 := Scalar.addi c0_i32_501 v673
  v674.toNat
def k0_dev51 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_505 : BitVec 32 := 20#32
  let v682 : BitVec 32 := Scalar.addi v2 c20_i32_505
  let c32_i32_506 : BitVec 32 := 32#32
  let v683 : BitVec 32 := Scalar.remsi v682 c32_i32_506
  let c1_i32_511 : BitVec 32 := 1#32
  let v685 : BitVec 32 := Scalar.muli v683 c1_i32_511
  let v686 : BitVec 32 := Scalar.addi c0_i32_512 v685
  v686.toNat
def k0_dev52 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_516 : BitVec 32 := 21#32
  let v694 : BitVec 32 := Scalar.addi v2 c21_i32_516
  let c32_i32_517 : BitVec 32 := 32#32
  let v695 : BitVec 32 := Scalar.remsi v694 c32_i32_517
  let c1_i32_522 : BitVec 32 := 1#32
  let v697 : BitVec 32 := Scalar.muli v695 c1_i32_522
  let v698 : BitVec 32 := Scalar.addi c0_i32_523 v697
  v698.toNat
def k0_dev53 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_527 : BitVec 32 := 22#32
  let v706 : BitVec 32 := Scalar.addi v2 c22_i32_527
  let c32_i32_528 : BitVec 32 := 32#32
  let v707 : BitVec 32 := Scalar.remsi v706 c32_i32_528
  let c1_i32_533 : BitVec 32 := 1#32
  let v709 : BitVec 32 := Scalar.muli v707 c1_i32_533
  let v710 : BitVec 32 := Scalar.addi c0_i32_534 v709
  v710.toNat
def k0_dev54 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_538 : BitVec 32 := 23#32
  let v718 : BitVec 32 := Scalar.addi v2 c23_i32_538
  let c32_i32_539 : BitVec 32 := 32#32
  let v719 : BitVec 32 := Scalar.remsi v718 c32_i32_539
  let c1_i32_544 : BitVec 32 := 1#32
  let v721 : BitVec 32 := Scalar.muli v719 c1_i32_544
  let v722 : BitVec 32 := Scalar.addi c0_i32_545 v721
  v722.toNat
def k0_dev55 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_549 : BitVec 32 := 24#32
  let v730 : BitVec 32 := Scalar.addi v2 c24_i32_549
  let c32_i32_550 : BitVec 32 := 32#32
  let v731 : BitVec 32 := Scalar.remsi v730 c32_i32_550
  let c1_i32_555 : BitVec 32 := 1#32
  let v733 : BitVec 32 := Scalar.muli v731 c1_i32_555
  let v734 : BitVec 32 := Scalar.addi c0_i32_556 v733
  v734.toNat
def k0_dev56 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_560 : BitVec 32 := 25#32
  let v742 : BitVec 32 := Scalar.addi v2 c25_i32_560
  let c32_i32_561 : BitVec 32 := 32#32
  let v743 : BitVec 32 := Scalar.remsi v742 c32_i32_561
  let c1_i32_566 : BitVec 32 := 1#32
  let v745 : BitVec 32 := Scalar.muli v743 c1_i32_566
  let v746 : BitVec 32 := Scalar.addi c0_i32_567 v745
  v746.toNat
def k0_dev57 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_571 : BitVec 32 := 26#32
  let v754 : BitVec 32 := Scalar.addi v2 c26_i32_571
  let c32_i32_572 : BitVec 32 := 32#32
  let v755 : BitVec 32 := Scalar.remsi v754 c32_i32_572
  let c1_i32_577 : BitVec 32 := 1#32
  let v757 : BitVec 32 := Scalar.muli v755 c1_i32_577
  let v758 : BitVec 32 := Scalar.addi c0_i32_578 v757
  v758.toNat
def k0_dev58 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_582 : BitVec 32 := 27#32
  let v766 : BitVec 32 := Scalar.addi v2 c27_i32_582
  let c32_i32_583 : BitVec 32 := 32#32
  let v767 : BitVec 32 := Scalar.remsi v766 c32_i32_583
  let c1_i32_588 : BitVec 32 := 1#32
  let v769 : BitVec 32 := Scalar.muli v767 c1_i32_588
  let v770 : BitVec 32 := Scalar.addi c0_i32_589 v769
  v770.toNat
def k0_dev59 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_593 : BitVec 32 := 28#32
  let v778 : BitVec 32 := Scalar.addi v2 c28_i32_593
  let c32_i32_594 : BitVec 32 := 32#32
  let v779 : BitVec 32 := Scalar.remsi v778 c32_i32_594
  let c1_i32_599 : BitVec 32 := 1#32
  let v781 : BitVec 32 := Scalar.muli v779 c1_i32_599
  let v782 : BitVec 32 := Scalar.addi c0_i32_600 v781
  v782.toNat
def k0_dev60 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_604 : BitVec 32 := 29#32
  let v790 : BitVec 32 := Scalar.addi v2 c29_i32_604
  let c32_i32_605 : BitVec 32 := 32#32
  let v791 : BitVec 32 := Scalar.remsi v790 c32_i32_605
  let c1_i32_610 : BitVec 32 := 1#32
  let v793 : BitVec 32 := Scalar.muli v791 c1_i32_610
  let v794 : BitVec 32 := Scalar.addi c0_i32_611 v793
  v794.toNat
def k0_dev61 (d0 : Dev nD) : Nat :=
  let c0_i32_622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_615 : BitVec 32 := 30#32
  let v802 : BitVec 32 := Scalar.addi v2 c30_i32_615
  let c32_i32_616 : BitVec 32 := 32#32
  let v803 : BitVec 32 := Scalar.remsi v802 c32_i32_616
  let c1_i32_621 : BitVec 32 := 1#32
  let v805 : BitVec 32 := Scalar.muli v803 c1_i32_621
  let v806 : BitVec 32 := Scalar.addi c0_i32_622 v805
  v806.toNat
def k0_dev62 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_626 : BitVec 32 := 31#32
  let v814 : BitVec 32 := Scalar.addi v2 c31_i32_626
  let c32_i32_627 : BitVec 32 := 32#32
  let v815 : BitVec 32 := Scalar.remsi v814 c32_i32_627
  let c1_i32_632 : BitVec 32 := 1#32
  let v817 : BitVec 32 := Scalar.muli v815 c1_i32_632
  let v818 : BitVec 32 := Scalar.addi c0_i32_633 v817
  v818.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1102 : BitVec 32 := 8#32
  let v1198 : BitVec 32 := Scalar.muli v2 c8_i32_1102
  let v1199 : Index := Scalar.indexCast v1198
  let c0_1103 : Index := 0#32
  ![v1199.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1112 : BitVec 32 := 8#32
  let v1209 : BitVec 32 := Scalar.muli v2 c8_i32_1112
  let c0_i32_1117 : BitVec 32 := 0#32
  ![v1209.toNat, 0]
def k0_dev63 (d0 : Dev nD) : Nat :=
  let c0_i32_1116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1110 : BitVec 32 := 1#32
  let v1207 : BitVec 32 := Scalar.addi v2 c1_i32_1110
  let c32_i32_1111 : BitVec 32 := 32#32
  let v1208 : BitVec 32 := Scalar.remsi v1207 c32_i32_1111
  let c1_i32_1115 : BitVec 32 := 1#32
  let v1210 : BitVec 32 := Scalar.muli v1208 c1_i32_1115
  let v1211 : BitVec 32 := Scalar.addi c0_i32_1116 v1210
  v1211.toNat
def k0_dev64 (d0 : Dev nD) : Nat :=
  let c0_i32_1124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1118 : BitVec 32 := 2#32
  let v1217 : BitVec 32 := Scalar.addi v2 c2_i32_1118
  let c32_i32_1119 : BitVec 32 := 32#32
  let v1218 : BitVec 32 := Scalar.remsi v1217 c32_i32_1119
  let c1_i32_1123 : BitVec 32 := 1#32
  let v1220 : BitVec 32 := Scalar.muli v1218 c1_i32_1123
  let v1221 : BitVec 32 := Scalar.addi c0_i32_1124 v1220
  v1221.toNat
def k0_dev65 (d0 : Dev nD) : Nat :=
  let c0_i32_1132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1126 : BitVec 32 := 3#32
  let v1227 : BitVec 32 := Scalar.addi v2 c3_i32_1126
  let c32_i32_1127 : BitVec 32 := 32#32
  let v1228 : BitVec 32 := Scalar.remsi v1227 c32_i32_1127
  let c1_i32_1131 : BitVec 32 := 1#32
  let v1230 : BitVec 32 := Scalar.muli v1228 c1_i32_1131
  let v1231 : BitVec 32 := Scalar.addi c0_i32_1132 v1230
  v1231.toNat
def k0_dev66 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1134 : BitVec 32 := 4#32
  let v1237 : BitVec 32 := Scalar.addi v2 c4_i32_1134
  let c32_i32_1135 : BitVec 32 := 32#32
  let v1238 : BitVec 32 := Scalar.remsi v1237 c32_i32_1135
  let c1_i32_1139 : BitVec 32 := 1#32
  let v1240 : BitVec 32 := Scalar.muli v1238 c1_i32_1139
  let v1241 : BitVec 32 := Scalar.addi c0_i32_1140 v1240
  v1241.toNat
def k0_dev67 (d0 : Dev nD) : Nat :=
  let c0_i32_1148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1142 : BitVec 32 := 5#32
  let v1247 : BitVec 32 := Scalar.addi v2 c5_i32_1142
  let c32_i32_1143 : BitVec 32 := 32#32
  let v1248 : BitVec 32 := Scalar.remsi v1247 c32_i32_1143
  let c1_i32_1147 : BitVec 32 := 1#32
  let v1250 : BitVec 32 := Scalar.muli v1248 c1_i32_1147
  let v1251 : BitVec 32 := Scalar.addi c0_i32_1148 v1250
  v1251.toNat
def k0_dev68 (d0 : Dev nD) : Nat :=
  let c0_i32_1156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1150 : BitVec 32 := 6#32
  let v1257 : BitVec 32 := Scalar.addi v2 c6_i32_1150
  let c32_i32_1151 : BitVec 32 := 32#32
  let v1258 : BitVec 32 := Scalar.remsi v1257 c32_i32_1151
  let c1_i32_1155 : BitVec 32 := 1#32
  let v1260 : BitVec 32 := Scalar.muli v1258 c1_i32_1155
  let v1261 : BitVec 32 := Scalar.addi c0_i32_1156 v1260
  v1261.toNat
def k0_dev69 (d0 : Dev nD) : Nat :=
  let c0_i32_1164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1158 : BitVec 32 := 7#32
  let v1267 : BitVec 32 := Scalar.addi v2 c7_i32_1158
  let c32_i32_1159 : BitVec 32 := 32#32
  let v1268 : BitVec 32 := Scalar.remsi v1267 c32_i32_1159
  let c1_i32_1163 : BitVec 32 := 1#32
  let v1270 : BitVec 32 := Scalar.muli v1268 c1_i32_1163
  let v1271 : BitVec 32 := Scalar.addi c0_i32_1164 v1270
  v1271.toNat
def k0_dev70 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1166 : BitVec 32 := 8#32
  let v1277 : BitVec 32 := Scalar.addi v2 c8_i32_1166
  let c32_i32_1167 : BitVec 32 := 32#32
  let v1278 : BitVec 32 := Scalar.remsi v1277 c32_i32_1167
  let c1_i32_1171 : BitVec 32 := 1#32
  let v1280 : BitVec 32 := Scalar.muli v1278 c1_i32_1171
  let v1281 : BitVec 32 := Scalar.addi c0_i32_1172 v1280
  v1281.toNat
def k0_dev71 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1174 : BitVec 32 := 9#32
  let v1287 : BitVec 32 := Scalar.addi v2 c9_i32_1174
  let c32_i32_1175 : BitVec 32 := 32#32
  let v1288 : BitVec 32 := Scalar.remsi v1287 c32_i32_1175
  let c1_i32_1179 : BitVec 32 := 1#32
  let v1290 : BitVec 32 := Scalar.muli v1288 c1_i32_1179
  let v1291 : BitVec 32 := Scalar.addi c0_i32_1180 v1290
  v1291.toNat
def k0_dev72 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1182 : BitVec 32 := 10#32
  let v1297 : BitVec 32 := Scalar.addi v2 c10_i32_1182
  let c32_i32_1183 : BitVec 32 := 32#32
  let v1298 : BitVec 32 := Scalar.remsi v1297 c32_i32_1183
  let c1_i32_1187 : BitVec 32 := 1#32
  let v1300 : BitVec 32 := Scalar.muli v1298 c1_i32_1187
  let v1301 : BitVec 32 := Scalar.addi c0_i32_1188 v1300
  v1301.toNat
def k0_dev73 (d0 : Dev nD) : Nat :=
  let c0_i32_1196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1190 : BitVec 32 := 11#32
  let v1307 : BitVec 32 := Scalar.addi v2 c11_i32_1190
  let c32_i32_1191 : BitVec 32 := 32#32
  let v1308 : BitVec 32 := Scalar.remsi v1307 c32_i32_1191
  let c1_i32_1195 : BitVec 32 := 1#32
  let v1310 : BitVec 32 := Scalar.muli v1308 c1_i32_1195
  let v1311 : BitVec 32 := Scalar.addi c0_i32_1196 v1310
  v1311.toNat
def k0_dev74 (d0 : Dev nD) : Nat :=
  let c0_i32_1204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1198 : BitVec 32 := 12#32
  let v1317 : BitVec 32 := Scalar.addi v2 c12_i32_1198
  let c32_i32_1199 : BitVec 32 := 32#32
  let v1318 : BitVec 32 := Scalar.remsi v1317 c32_i32_1199
  let c1_i32_1203 : BitVec 32 := 1#32
  let v1320 : BitVec 32 := Scalar.muli v1318 c1_i32_1203
  let v1321 : BitVec 32 := Scalar.addi c0_i32_1204 v1320
  v1321.toNat
def k0_dev75 (d0 : Dev nD) : Nat :=
  let c0_i32_1212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1206 : BitVec 32 := 13#32
  let v1327 : BitVec 32 := Scalar.addi v2 c13_i32_1206
  let c32_i32_1207 : BitVec 32 := 32#32
  let v1328 : BitVec 32 := Scalar.remsi v1327 c32_i32_1207
  let c1_i32_1211 : BitVec 32 := 1#32
  let v1330 : BitVec 32 := Scalar.muli v1328 c1_i32_1211
  let v1331 : BitVec 32 := Scalar.addi c0_i32_1212 v1330
  v1331.toNat
def k0_dev76 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1214 : BitVec 32 := 14#32
  let v1337 : BitVec 32 := Scalar.addi v2 c14_i32_1214
  let c32_i32_1215 : BitVec 32 := 32#32
  let v1338 : BitVec 32 := Scalar.remsi v1337 c32_i32_1215
  let c1_i32_1219 : BitVec 32 := 1#32
  let v1340 : BitVec 32 := Scalar.muli v1338 c1_i32_1219
  let v1341 : BitVec 32 := Scalar.addi c0_i32_1220 v1340
  v1341.toNat
def k0_dev77 (d0 : Dev nD) : Nat :=
  let c0_i32_1228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1222 : BitVec 32 := 15#32
  let v1347 : BitVec 32 := Scalar.addi v2 c15_i32_1222
  let c32_i32_1223 : BitVec 32 := 32#32
  let v1348 : BitVec 32 := Scalar.remsi v1347 c32_i32_1223
  let c1_i32_1227 : BitVec 32 := 1#32
  let v1350 : BitVec 32 := Scalar.muli v1348 c1_i32_1227
  let v1351 : BitVec 32 := Scalar.addi c0_i32_1228 v1350
  v1351.toNat
def k0_dev78 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1230 : BitVec 32 := 16#32
  let v1357 : BitVec 32 := Scalar.addi v2 c16_i32_1230
  let c32_i32_1231 : BitVec 32 := 32#32
  let v1358 : BitVec 32 := Scalar.remsi v1357 c32_i32_1231
  let c1_i32_1235 : BitVec 32 := 1#32
  let v1360 : BitVec 32 := Scalar.muli v1358 c1_i32_1235
  let v1361 : BitVec 32 := Scalar.addi c0_i32_1236 v1360
  v1361.toNat
def k0_dev79 (d0 : Dev nD) : Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1238 : BitVec 32 := 17#32
  let v1367 : BitVec 32 := Scalar.addi v2 c17_i32_1238
  let c32_i32_1239 : BitVec 32 := 32#32
  let v1368 : BitVec 32 := Scalar.remsi v1367 c32_i32_1239
  let c1_i32_1243 : BitVec 32 := 1#32
  let v1370 : BitVec 32 := Scalar.muli v1368 c1_i32_1243
  let v1371 : BitVec 32 := Scalar.addi c0_i32_1244 v1370
  v1371.toNat
def k0_dev80 (d0 : Dev nD) : Nat :=
  let c0_i32_1252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1246 : BitVec 32 := 18#32
  let v1377 : BitVec 32 := Scalar.addi v2 c18_i32_1246
  let c32_i32_1247 : BitVec 32 := 32#32
  let v1378 : BitVec 32 := Scalar.remsi v1377 c32_i32_1247
  let c1_i32_1251 : BitVec 32 := 1#32
  let v1380 : BitVec 32 := Scalar.muli v1378 c1_i32_1251
  let v1381 : BitVec 32 := Scalar.addi c0_i32_1252 v1380
  v1381.toNat
def k0_dev81 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1254 : BitVec 32 := 19#32
  let v1387 : BitVec 32 := Scalar.addi v2 c19_i32_1254
  let c32_i32_1255 : BitVec 32 := 32#32
  let v1388 : BitVec 32 := Scalar.remsi v1387 c32_i32_1255
  let c1_i32_1259 : BitVec 32 := 1#32
  let v1390 : BitVec 32 := Scalar.muli v1388 c1_i32_1259
  let v1391 : BitVec 32 := Scalar.addi c0_i32_1260 v1390
  v1391.toNat
def k0_dev82 (d0 : Dev nD) : Nat :=
  let c0_i32_1268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1262 : BitVec 32 := 20#32
  let v1397 : BitVec 32 := Scalar.addi v2 c20_i32_1262
  let c32_i32_1263 : BitVec 32 := 32#32
  let v1398 : BitVec 32 := Scalar.remsi v1397 c32_i32_1263
  let c1_i32_1267 : BitVec 32 := 1#32
  let v1400 : BitVec 32 := Scalar.muli v1398 c1_i32_1267
  let v1401 : BitVec 32 := Scalar.addi c0_i32_1268 v1400
  v1401.toNat
def k0_dev83 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1270 : BitVec 32 := 21#32
  let v1407 : BitVec 32 := Scalar.addi v2 c21_i32_1270
  let c32_i32_1271 : BitVec 32 := 32#32
  let v1408 : BitVec 32 := Scalar.remsi v1407 c32_i32_1271
  let c1_i32_1275 : BitVec 32 := 1#32
  let v1410 : BitVec 32 := Scalar.muli v1408 c1_i32_1275
  let v1411 : BitVec 32 := Scalar.addi c0_i32_1276 v1410
  v1411.toNat
def k0_dev84 (d0 : Dev nD) : Nat :=
  let c0_i32_1284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1278 : BitVec 32 := 22#32
  let v1417 : BitVec 32 := Scalar.addi v2 c22_i32_1278
  let c32_i32_1279 : BitVec 32 := 32#32
  let v1418 : BitVec 32 := Scalar.remsi v1417 c32_i32_1279
  let c1_i32_1283 : BitVec 32 := 1#32
  let v1420 : BitVec 32 := Scalar.muli v1418 c1_i32_1283
  let v1421 : BitVec 32 := Scalar.addi c0_i32_1284 v1420
  v1421.toNat
def k0_dev85 (d0 : Dev nD) : Nat :=
  let c0_i32_1292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1286 : BitVec 32 := 23#32
  let v1427 : BitVec 32 := Scalar.addi v2 c23_i32_1286
  let c32_i32_1287 : BitVec 32 := 32#32
  let v1428 : BitVec 32 := Scalar.remsi v1427 c32_i32_1287
  let c1_i32_1291 : BitVec 32 := 1#32
  let v1430 : BitVec 32 := Scalar.muli v1428 c1_i32_1291
  let v1431 : BitVec 32 := Scalar.addi c0_i32_1292 v1430
  v1431.toNat
def k0_dev86 (d0 : Dev nD) : Nat :=
  let c0_i32_1300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1294 : BitVec 32 := 24#32
  let v1437 : BitVec 32 := Scalar.addi v2 c24_i32_1294
  let c32_i32_1295 : BitVec 32 := 32#32
  let v1438 : BitVec 32 := Scalar.remsi v1437 c32_i32_1295
  let c1_i32_1299 : BitVec 32 := 1#32
  let v1440 : BitVec 32 := Scalar.muli v1438 c1_i32_1299
  let v1441 : BitVec 32 := Scalar.addi c0_i32_1300 v1440
  v1441.toNat
def k0_dev87 (d0 : Dev nD) : Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1302 : BitVec 32 := 25#32
  let v1447 : BitVec 32 := Scalar.addi v2 c25_i32_1302
  let c32_i32_1303 : BitVec 32 := 32#32
  let v1448 : BitVec 32 := Scalar.remsi v1447 c32_i32_1303
  let c1_i32_1307 : BitVec 32 := 1#32
  let v1450 : BitVec 32 := Scalar.muli v1448 c1_i32_1307
  let v1451 : BitVec 32 := Scalar.addi c0_i32_1308 v1450
  v1451.toNat
def k0_dev88 (d0 : Dev nD) : Nat :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1310 : BitVec 32 := 26#32
  let v1457 : BitVec 32 := Scalar.addi v2 c26_i32_1310
  let c32_i32_1311 : BitVec 32 := 32#32
  let v1458 : BitVec 32 := Scalar.remsi v1457 c32_i32_1311
  let c1_i32_1315 : BitVec 32 := 1#32
  let v1460 : BitVec 32 := Scalar.muli v1458 c1_i32_1315
  let v1461 : BitVec 32 := Scalar.addi c0_i32_1316 v1460
  v1461.toNat
def k0_dev89 (d0 : Dev nD) : Nat :=
  let c0_i32_1324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1318 : BitVec 32 := 27#32
  let v1467 : BitVec 32 := Scalar.addi v2 c27_i32_1318
  let c32_i32_1319 : BitVec 32 := 32#32
  let v1468 : BitVec 32 := Scalar.remsi v1467 c32_i32_1319
  let c1_i32_1323 : BitVec 32 := 1#32
  let v1470 : BitVec 32 := Scalar.muli v1468 c1_i32_1323
  let v1471 : BitVec 32 := Scalar.addi c0_i32_1324 v1470
  v1471.toNat
def k0_dev90 (d0 : Dev nD) : Nat :=
  let c0_i32_1332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1326 : BitVec 32 := 28#32
  let v1477 : BitVec 32 := Scalar.addi v2 c28_i32_1326
  let c32_i32_1327 : BitVec 32 := 32#32
  let v1478 : BitVec 32 := Scalar.remsi v1477 c32_i32_1327
  let c1_i32_1331 : BitVec 32 := 1#32
  let v1480 : BitVec 32 := Scalar.muli v1478 c1_i32_1331
  let v1481 : BitVec 32 := Scalar.addi c0_i32_1332 v1480
  v1481.toNat
def k0_dev91 (d0 : Dev nD) : Nat :=
  let c0_i32_1340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1334 : BitVec 32 := 29#32
  let v1487 : BitVec 32 := Scalar.addi v2 c29_i32_1334
  let c32_i32_1335 : BitVec 32 := 32#32
  let v1488 : BitVec 32 := Scalar.remsi v1487 c32_i32_1335
  let c1_i32_1339 : BitVec 32 := 1#32
  let v1490 : BitVec 32 := Scalar.muli v1488 c1_i32_1339
  let v1491 : BitVec 32 := Scalar.addi c0_i32_1340 v1490
  v1491.toNat
def k0_dev92 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1342 : BitVec 32 := 30#32
  let v1497 : BitVec 32 := Scalar.addi v2 c30_i32_1342
  let c32_i32_1343 : BitVec 32 := 32#32
  let v1498 : BitVec 32 := Scalar.remsi v1497 c32_i32_1343
  let c1_i32_1347 : BitVec 32 := 1#32
  let v1500 : BitVec 32 := Scalar.muli v1498 c1_i32_1347
  let v1501 : BitVec 32 := Scalar.addi c0_i32_1348 v1500
  v1501.toNat
def k0_dev93 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1350 : BitVec 32 := 31#32
  let v1507 : BitVec 32 := Scalar.addi v2 c31_i32_1350
  let c32_i32_1351 : BitVec 32 := 32#32
  let v1508 : BitVec 32 := Scalar.remsi v1507 c32_i32_1351
  let c1_i32_1355 : BitVec 32 := 1#32
  let v1510 : BitVec 32 := Scalar.muli v1508 c1_i32_1355
  let v1511 : BitVec 32 := Scalar.addi c0_i32_1356 v1510
  v1511.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x8192, .f32⟩
  | 2 => ⟨S2x128x128x64, .f32⟩
  | 3 => ⟨S2x128x128x64, .f32⟩
  | 4 => ⟨S8192x512, .f32⟩
  | 5 => ⟨S2x128x8192, .f32⟩
  | 6 => ⟨S2x128x128x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S128, .i32⟩
  | 28 => ⟨S_, .i32⟩
  | 29 => ⟨S_, .i32⟩
  | 30 => ⟨S128, .i32⟩
  | 31 => ⟨S128, .i32⟩
  | 32 => ⟨S128, .i32⟩
  | 33 => ⟨S_, .i32⟩
  | 34 => ⟨S128, .i32⟩
  | 35 => ⟨S128, .i1⟩
  | 36 => ⟨S128, .i32⟩
  | 37 => ⟨S128, .i32⟩
  | 38 => ⟨S_, .i32⟩
  | 39 => ⟨S128, .i32⟩
  | 40 => ⟨S128, .i1⟩
  | 41 => ⟨S128, .i1⟩
  | 42 => ⟨S_, .i32⟩
  | 43 => ⟨S128, .i32⟩
  | 44 => ⟨S128, .i32⟩
  | 45 => ⟨S128, .i32⟩
  | 46 => ⟨S1x128, .i32⟩
  | 47 => ⟨S128x128, .i32⟩
  | 48 => ⟨S128x128, .i32⟩
  | 49 => ⟨S128x128, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x128, .i32⟩
  | 57 => ⟨S1x128, .i32⟩
  | 58 => ⟨S_, .i32⟩
  | 59 => ⟨S1x128, .i32⟩
  | 60 => ⟨S1x128, .i1⟩
  | 61 => ⟨S_, .i32⟩
  | 62 => ⟨S1x128, .i32⟩
  | 63 => ⟨S1x128, .i1⟩
  | 64 => ⟨S_, .i32⟩
  | 65 => ⟨S_, .i1⟩
  | 66 => ⟨S1x128, .i1⟩
  | 67 => ⟨S1x128, .i1⟩
  | 68 => ⟨S1x128, .i1⟩
  | 69 => ⟨S1x128, .i32⟩
  | 70 => ⟨S1x128, .i32⟩
  | 71 => ⟨S1x128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x128, .i32⟩
  | 95 => ⟨S128x128, .i32⟩
  | 96 => ⟨S128x128, .i1⟩
  | 97 => ⟨S128x128, .i1⟩
  | 98 => ⟨S2x128x128x128, .f32⟩
  | 99 => ⟨S_, .f32⟩
  | 100 => ⟨S2x128x128x128, .f32⟩
  | 101 => ⟨S2x128x128x128, .f32⟩
  | 102 => ⟨S1x1x128x128, .i1⟩
  | 103 => ⟨S_, .f32⟩
  | 104 => ⟨S_, .f32⟩
  | 105 => ⟨S2x128x128x128, .i1⟩
  | 106 => ⟨S2x128x128x128, .f32⟩
  | 107 => ⟨S2x128x128x128, .f32⟩
  | 108 => ⟨S_, .f32⟩
  | 109 => ⟨S2x128x128, .f32⟩
  | 110 => ⟨S2x128x128x1, .f32⟩
  | 111 => ⟨S2x128x128x128, .f32⟩
  | 112 => ⟨S2x128x128x128, .f32⟩
  | 113 => ⟨S2x128x128x128, .f32⟩
  | 114 => ⟨S_, .i1⟩
  | 115 => ⟨S128, .i1⟩
  | 116 => ⟨S1x1x128x1, .i1⟩
  | 117 => ⟨S_, .f32⟩
  | 118 => ⟨S2x128x128, .f32⟩
  | 119 => ⟨S2x128x128x1, .f32⟩
  | 120 => ⟨S_, .f32⟩
  | 121 => ⟨S_, .f32⟩
  | 122 => ⟨S2x128x128x1, .i1⟩
  | 123 => ⟨S2x128x128x1, .f32⟩
  | 124 => ⟨S2x128x128x1, .f32⟩
  | 125 => ⟨S2x128x128x128, .f32⟩
  | 126 => ⟨S2x128x128x128, .f32⟩
  | 127 => ⟨S1x1x128x1, .i1⟩
  | _ => ⟨S2x128x512, .f32⟩

abbrev hbmTy0_1 (i : Nat) : BufTy := match i % 128 with
  | 0 => ⟨S_, .f32⟩
  | 1 => ⟨S_, .f32⟩
  | 2 => ⟨S2x128x128x128, .i1⟩
  | 3 => ⟨S2x128x128x128, .f32⟩
  | 4 => ⟨S2x128x128x128, .f32⟩
  | 5 => ⟨S2x128x64x128, .f32⟩
  | 6 => ⟨S2x128x128x64, .f32⟩
  | 7 => ⟨S2x128x8192, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Phases.lean ====
/-
  The kernel body as a short program: its seven runs of thirty-one like effects written as loops over the step
  `j`, the straight-line part between them written once, and the theorem that the printed body is that program.
-/
module

public import proofs.«01_k».proof.Proof.Gen.KernelIdeal.Skeleton
public import proofs.«01_k».proof.Proof.Gen.KernelIdeal.Frame

@[expose] public section

set_option synthInstance.maxSize 4096

noncomputable section

namespace Cert.KernelIdeal.Run

open Idealize.ShloMosaic Idealize.SL.Sem
open Cert.KernelIdeal.Gen

variable {F : FTy → Type} [FloatOps F]

/-- The kernel's programs. -/
abbrev KProg (F : FTy → Type) : Type 1 := Prog (TpuEff nD τ sig (Elt F) Λ₀ .tc) PUnit
/-- The kernel's effects with no answer. -/
abbrev KEff (F : FTy → Type) : Type := TpuEff nD τ sig (Elt F) Λ₀ .tc PUnit

/-! ## The memrefs the body is called on -/

abbrev xM : Memref sig .tc .vmem S2x128x512 .f32 := Memref.whole cc0_stg0_0
abbrev wqM : Memref sig .tc .vmem S512x256 .f32 := Memref.whole cc0_stg1_0
abbrev kM : Memref sig .tc .hbm S2x128x8192 .f32 := Memref.whole main_v1
abbrev vM : Memref sig .tc .hbm S2x128x8192 .f32 := Memref.whole main_v2
abbrev woM : Memref sig .tc .vmem S256x512 .f32 := Memref.whole cc0_stg2_0
abbrev outM : Memref sig .tc .vmem S256x512 .f32 := Memref.whole cc0_stg3_0
abbrev ctxM : Memref sig .tc .vmem S256x256 .f32 := Memref.whole cc0_scratch0
abbrev parM : Memref sig .tc .vmem S256x512 .f32 := Memref.whole cc0_scratch1
abbrev rsM : Memref sig .tc .vmem S31x8x512 .f32 := Memref.whole cc0_scratch2
abbrev redM : Memref sig .tc .vmem S8x512 .f32 := Memref.whole cc0_scratch3
abbrev kvM : Memref sig .tc .vmem S2x2x128x256 .f32 := Memref.whole cc0_scratch4

/-- The barrier semaphore. -/
abbrev barS : Sem sig := sig.barrier 0 rfl
/-- Step `j`'s semaphores: the first exchange's departure and arrival, the second exchange's departure and arrival. -/
abbrev s1 (j : Fin 31) : DmaSem sig := ⟨4 + j.val, by have := j.isLt; show 4 + j.val < 132; omega⟩
abbrev r1 (j : Fin 31) : DmaSem sig := ⟨35 + j.val, by have := j.isLt; show 35 + j.val < 132; omega⟩
abbrev s2 (j : Fin 31) : DmaSem sig := ⟨66 + j.val, by have := j.isLt; show 66 + j.val < 132; omega⟩
abbrev r2 (j : Fin 31) : DmaSem sig := ⟨97 + j.val, by have := j.isLt; show 97 + j.val < 132; omega⟩
/-- The semaphores of the four copies of this core's heads of the keys and values. -/
abbrev kvS (i : Fin 4) : DmaSem sig := ⟨128 + i.val, by have := i.isLt; show 128 + i.val < 132; omega⟩

/-- Row offsets of an eight-row block of a 256 × 512 buffer. -/
abbrev RowOff : Type := {o : Fin 2 → ℕ // ∀ a, o a + S8x512.size a ≤ S256x512.size a}
/-- Offsets of a (batch, 128, 256) block of the flattened keys or values. -/
abbrev KvOff : Type := {o : Fin 3 → ℕ // ∀ a, o a + S1x128x256.size a ≤ S2x128x8192.size a}

theorem rs_inb (j : Fin 31) : ∀ a, (![j.val, 0, 0] : Fin 3 → ℕ) a + S1x8x512.size a ≤ S31x8x512.size a := by revert j; decide
theorem kv_inb (i : Fin 4) : ∀ a, (![i.val / 2, i.val % 2, 0, 0] : Fin 4 → ℕ) a + S1x1x128x256.size a ≤ S2x2x128x256.size a := by revert i; decide
theorem ctx_inb (i : Fin 8) : ∀ a, (![i.val / 4 * 128, i.val % 4 * 64] : Fin 2 → ℕ) a + S128x64.size a ≤ S256x256.size a := by revert i; decide

/-- An eight-row block of a 256 × 512 buffer. -/
abbrev rowSl (m : Memref sig .tc .vmem S256x512 .f32) (o : RowOff) : Memref sig .tc .vmem S8x512 .f32 :=
  m.slice (Rect.unit (s := S256x512) o.1 S8x512.size o.2) (fun _ => rfl)
/-- Slot `j` of the landing buffer. -/
abbrev rsSl (j : Fin 31) : Memref sig .tc .vmem S8x512 .f32 :=
  (rsM.slice (Rect.unit (s := S31x8x512) ![j.val, 0, 0] S1x8x512.size (rs_inb j)) (fun _ => rfl)).squeeze S8x512 squeezes_S1x8x512_S8x512
/-- Slot `i` of the key and value scratch: keys of batch 0, of batch 1, values of batch 0, of batch 1. -/
abbrev kvSl (i : Fin 4) : Memref sig .tc .vmem S128x256 .f32 :=
  (kvM.slice (Rect.unit (s := S2x2x128x256) ![i.val / 2, i.val % 2, 0, 0] S1x1x128x256.size (kv_inb i)) (fun _ => rfl)).squeeze S128x256 squeezes_S1x1x128x256_S128x256
/-- A block of the flattened keys or values. -/
abbrev hbmSl (m : Memref sig .tc .hbm S2x128x8192 .f32) (o : KvOff) : Memref sig .tc .hbm S128x256 .f32 :=
  (m.slice (Rect.unit (s := S2x128x8192) o.1 S1x128x256.size o.2) (fun _ => rfl)).squeeze S128x256 squeezes_S1x128x256_S128x256
/-- The copy's source for slot `i`. -/
abbrev kvSrc (o1 o2 : KvOff) : Fin 4 → Memref sig .tc .hbm S128x256 .f32 :=
  ![hbmSl kM o1, hbmSl kM o2, hbmSl vM o1, hbmSl vM o2]
/-- The load of slot `i` whole. -/
abbrev kvLd (i : Fin 4) : Rect S2x2x128x256 := Rect.unit (s := S2x2x128x256) ![i.val / 2, i.val % 2, 0, 0] S1x1x128x256.size (kv_inb i)
/-- Head `i % 4` of batch `i / 4` in the context buffer. -/
abbrev ctxRc (i : Fin 8) : Rect S256x256 := Rect.unit (s := S256x256) ![i.val / 4 * 128, i.val % 4 * 64] S128x64.size (ctx_inb i)

/-! ## The loops -/

/-- The thirty-one steps. -/
def steps : List (Fin 31) := [0, 1, 2, 3, 4, 5, 6, 7, 8, 9, 10, 11, 12, 13, 14, 15, 16, 17, 18, 19, 20, 21, 22, 23, 24, 25, 26, 27, 28, 29, 30]

/-- One effect per step, then `k`. -/
def each (e : Fin 31 → KEff F) (l : List (Fin 31)) (k : KProg F) : KProg F :=
  l.foldr (fun j k => .op (e j) fun _ => k) k
/-- Two effects per step, then `k`. -/
def each2 (e e' : Fin 31 → KEff F) (l : List (Fin 31)) (k : KProg F) : KProg F :=
  l.foldr (fun j k => .op (e j) fun _ => .op (e' j) fun _ => k) k

/-- Signal the step's peer's barrier. -/
abbrev eSig (pe : Fin 31 → Dev nD) (j : Fin 31) : KEff F := .semSignal (Dev.tc (pe j)) barS ((1 : ℕ) : ℤ)
/-- The first exchange: the peer's rows of the partial product to the peer's slot `j`. -/
abbrev eSend1 (pe : Fin 31 → Dev nD) (o : Fin 31 → RowOff) (j : Fin 31) : KEff F :=
  .enqueueDma (rowSl parM (o j)) (.remote (Dev.tc (pe j)) (rsSl j) (.dma (s1 j))) (.dma (r1 j)) (View.wordExact_bits rfl)
    ((View.wordExact_bits rfl).reshape _ _) ⟨⟨rfl, Or.inl rfl⟩, trivial⟩
abbrev eWaitS1 (o : Fin 31 → RowOff) (j : Fin 31) : KEff F :=
  .waitDma2 (s1 j) (rsSl j) (rowSl parM (o j)) ((View.wordExact_bits rfl).reshape _ _) (View.wordExact_bits rfl)
abbrev eWaitR1 (o : Fin 31 → RowOff) (j : Fin 31) : KEff F :=
  .waitDma2 (r1 j) (rowSl parM (o j)) (rsSl j) (View.wordExact_bits rfl) ((View.wordExact_bits rfl).reshape _ _)
/-- The second exchange: this core's reduced rows to its rows of the peer's output. -/
abbrev eSend2 (pe : Fin 31 → Dev nD) (o : RowOff) (j : Fin 31) : KEff F :=
  .enqueueDma redM (.remote (Dev.tc (pe j)) (rowSl outM o) (.dma (s2 j))) (.dma (r2 j)) (Memref.isWhole_whole _).wordExact
    (View.wordExact_bits rfl) ⟨⟨rfl, Or.inl rfl⟩, trivial⟩
abbrev eWaitS2 (o : RowOff) (j : Fin 31) : KEff F :=
  .waitDma2 (s2 j) (rowSl outM o) redM (View.wordExact_bits rfl) (Memref.isWhole_whole _).wordExact
abbrev eWaitR2 (o : RowOff) (j : Fin 31) : KEff F :=
  .waitDma2 (r2 j) redM (rowSl outM o) (Memref.isWhole_whole _).wordExact (View.wordExact_bits rfl)
/-- The copy of slot `i` of the keys and values, and its wait. -/
abbrev eKv (o1 o2 : KvOff) (i : Fin 4) : KEff F :=
  .enqueueDma (kvSrc o1 o2 i) (.here (kvSl i)) (.dma (kvS i)) (View.wordExact_bits rfl) (View.wordExact_bits rfl) ⟨Or.inl rfl, trivial⟩

/-! ## The straight-line part: queries, keys, values, heads, partial product -/

/-- Which (query, key) pairs attend. -/
def maskV : IVec S128x128 1 :=
  k0_pay10 (k0_pay6 k0_pay2 k0_pay3 k0_pay4 k0_pay5)
    (k0_pay8 (iota .tc S128x128 32 [1] iota_S128x128_d1_w32) k0_pay2 k0_pay3 k0_pay4 k0_pay5)
    (k0_pay9 (iota .tc S128x128 32 [1] iota_S128x128_d1_w32))

/-- The rectangle of a whole buffer. -/
abbrev ldCtx (i : Fin 8) (k : Vec F S128x64 .f32 → KProg F) : KProg F :=
  .op (.load ctxM (ctxRc i).toLoadRect (View.loadsAt_vmem h_S128x64)) k
abbrev stCtx (i : Fin 8) (v : FVec F S128x64 .f32) (k : KProg F) : KProg F :=
  .op (.store ctxM (ctxRc i) v Finset.univ (View.stores_vmem_bits_univ h_S128x64 rfl) (.inl rfl)) fun _ => k
abbrev ldKv (i : Fin 4) (k : Vec F S1x1x128x256 .f32 → KProg F) : KProg F :=
  .op (.load kvM (kvLd i).toLoadRect (View.loadsAt_vmem h_S1x1x128x256)) k
abbrev rowRc (o : RowOff) : Rect S256x512 := Rect.unit (s := S256x512) o.1 S8x512.size o.2

/-- From the copies of the keys and values to the store of the partial product. -/
def middle (o1 o2 : KvOff) (k : KProg F) : KProg F :=
  .op (eKv o1 o2 0) fun _ => .op (eKv o1 o2 1) fun _ => .op (eKv o1 o2 2) fun _ => .op (eKv o1 o2 3) fun _ =>
  .op (.load xM (Rect.unit (s := S2x128x512) ![0, 0, 0] S2x128x512.size inb_S2x128x512_S2x128x512_0_0_0).toLoadRect (View.loadsAt_vmem h_S2x128x512)) fun x =>
  .op (.load wqM (Rect.unit (s := S512x256) ![0, 0] S512x256.size inb_S512x256_S512x256_0_0).toLoadRect (View.loadsAt_vmem h_S512x256)) fun wq =>
  .op (.waitDma2 (kvS 0) (kvSrc o1 o2 0) (kvSl 0) (View.wordExact_bits rfl) (View.wordExact_bits rfl)) fun _ =>
  .op (.waitDma2 (kvS 1) (kvSrc o1 o2 1) (kvSl 1) (View.wordExact_bits rfl) (View.wordExact_bits rfl)) fun _ =>
  .op (.waitDma2 (kvS 2) (kvSrc o1 o2 2) (kvSl 2) (View.wordExact_bits rfl) (View.wordExact_bits rfl)) fun _ =>
  .op (.waitDma2 (kvS 3) (kvSrc o1 o2 3) (kvSl 3) (View.wordExact_bits rfl) (View.wordExact_bits rfl)) fun _ =>
  ldKv 0 fun k0 => ldKv 2 fun v0 =>
  ldCtx 0 fun _ => stCtx 0 (k0_pay14 (k0_pay13 (k0_pay1 x wq) maskV k0 v0)) <|
  ldCtx 1 fun _ => stCtx 1 (k0_pay15 (k0_pay1 x wq) maskV (k0_pay11 k0) (k0_pay12 v0)) <|
  ldCtx 2 fun _ => stCtx 2 (k0_pay17 (k0_pay16 (k0_pay1 x wq) maskV (k0_pay11 k0) (k0_pay12 v0))) <|
  ldCtx 3 fun _ => stCtx 3 (k0_pay18 (k0_pay1 x wq) maskV (k0_pay11 k0) (k0_pay12 v0)) <|
  ldKv 1 fun k1 => ldKv 3 fun v1 =>
  ldCtx 4 fun _ => stCtx 4 (k0_pay23 (k0_pay21 v1) (k0_pay22 (k0_pay1 x wq) maskV k1)) <|
  ldCtx 5 fun _ => stCtx 5 (k0_pay24 (k0_pay1 x wq) maskV (k0_pay19 k1) (k0_pay20 v1)) <|
  ldCtx 6 fun _ => stCtx 6 (k0_pay27 (k0_pay25 (k0_pay20 v1)) (k0_pay26 (k0_pay1 x wq) maskV (k0_pay19 k1))) <|
  ldCtx 7 fun _ => stCtx 7 (k0_pay28 (k0_pay1 x wq) maskV (k0_pay19 k1) (k0_pay20 v1)) <|
  .op (.load ctxM (Rect.unit (s := S256x256) ![0, 0] S256x256.size inb_S256x256_S256x256_0_0).toLoadRect (View.loadsAt_vmem h_S256x256)) fun ctx =>
  .op (.load woM (Rect.unit (s := S256x512) ![0, 0] S256x512.size inb_S256x512_S256x512_0_0).toLoadRect (View.loadsAt_vmem h_S256x512)) fun wo =>
  .op (.load parM (Rect.unit (s := S256x512) ![0, 0] S256x512.size inb_S256x512_S256x512_0_0).toLoadRect (View.loadsAt_vmem h_S256x512)) fun _ =>
  .op (.store parM (Rect.unit (s := S256x512) ![0, 0] S256x512.size inb_S256x512_S256x512_0_0) (k0_pay29 ctx wo) Finset.univ
    (View.stores_vmem_bits_univ h_S256x512 rfl) (.inl rfl)) fun _ => k

/-- Loading what arrived and the own rows, reducing them, storing the reduced rows; the reduced rows go on to `k`. -/
def reduce (o : RowOff) (k : FVec F S8x512 .f32 → KProg F) : KProg F :=
  .op (.load parM (rowRc o).toLoadRect (View.loadsAt_vmem h_S8x512)) fun p =>
  .op (.load rsM (Rect.unit (s := S31x8x512) ![0, 0, 0] S31x8x512.size inb_S31x8x512_S31x8x512_0_0_0).toLoadRect (View.loadsAt_vmem h_S31x8x512)) fun r =>
  .op (.load redM (Rect.unit (s := S8x512) ![0, 0] S8x512.size inb_S8x512_S8x512_0_0).toLoadRect (View.loadsAt_vmem h_S8x512)) fun _ =>
  .op (.store redM (Rect.unit (s := S8x512) ![0, 0] S8x512.size inb_S8x512_S8x512_0_0) (k0_pay31 p r) Finset.univ (View.stores_vmem_bits_univ h_S8x512 rfl) (.inl rfl)) fun _ =>
  k (k0_pay30 p r)

/-- Storing the reduced rows in the own output rows. -/
def putOwn (o : RowOff) (v : FVec F S8x512 .f32) (k : KProg F) : KProg F :=
  .op (.load outM (rowRc o).toLoadRect (View.loadsAt_vmem h_S8x512)) fun _ =>
  .op (.store outM (rowRc o) v Finset.univ (View.stores_vmem_bits_univ h_S8x512 rfl) (.inl rfl)) fun _ => k

/-- The body once the device is known: over the peers and offsets its lines compute. -/
def phases (to1 to2 to3 : Fin 31 → Dev nD) (o1 o2 : KvOff) (o3 : Fin 31 → RowOff) (o4 o5 : RowOff) : KProg F :=
  each (eSig to1) steps <| middle o1 o2 <|
  .op (.semWait barS ((31 : ℕ) : ℤ)) fun _ =>
  each (eSend1 to2 o3) steps <| each2 (eWaitS1 o3) (eWaitR1 o3) steps <|
  reduce o4 fun v =>
  each (eSend2 to3 o5) steps <| putOwn o4 v <| each2 (eWaitS2 o5) (eWaitR2 o5) steps <| .ret ⟨⟩

/-- The peers the printed lines compute, in the order of the steps. -/
def dv1 (d : Dev nD) : Fin 31 → Dev nD := ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩, ⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩, ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩, ⟨k0_dev31 d, k0_dev31_lt d⟩]
def dv2 (d : Dev nD) : Fin 31 → Dev nD := ![⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩, ⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩, ⟨k0_dev43 d, k0_dev43_lt d⟩, ⟨k0_dev44 d, k0_dev44_lt d⟩, ⟨k0_dev45 d, k0_dev45_lt d⟩, ⟨k0_dev46 d, k0_dev46_lt d⟩, ⟨k0_dev47 d, k0_dev47_lt d⟩, ⟨k0_dev48 d, k0_dev48_lt d⟩, ⟨k0_dev49 d, k0_dev49_lt d⟩, ⟨k0_dev50 d, k0_dev50_lt d⟩, ⟨k0_dev51 d, k0_dev51_lt d⟩, ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩, ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩, ⟨k0_dev62 d, k0_dev62_lt d⟩]
def dv3 (d : Dev nD) : Fin 31 → Dev nD := ![⟨k0_dev63 d, k0_dev63_lt d⟩, ⟨k0_dev64 d, k0_dev64_lt d⟩, ⟨k0_dev65 d, k0_dev65_lt d⟩, ⟨k0_dev66 d, k0_dev66_lt d⟩, ⟨k0_dev67 d, k0_dev67_lt d⟩, ⟨k0_dev68 d, k0_dev68_lt d⟩, ⟨k0_dev69 d, k0_dev69_lt d⟩, ⟨k0_dev70 d, k0_dev70_lt d⟩, ⟨k0_dev71 d, k0_dev71_lt d⟩, ⟨k0_dev72 d, k0_dev72_lt d⟩, ⟨k0_dev73 d, k0_dev73_lt d⟩, ⟨k0_dev74 d, k0_dev74_lt d⟩, ⟨k0_dev75 d, k0_dev75_lt d⟩, ⟨k0_dev76 d, k0_dev76_lt d⟩, ⟨k0_dev77 d, k0_dev77_lt d⟩, ⟨k0_dev78 d, k0_dev78_lt d⟩, ⟨k0_dev79 d, k0_dev79_lt d⟩, ⟨k0_dev80 d, k0_dev80_lt d⟩, ⟨k0_dev81 d, k0_dev81_lt d⟩, ⟨k0_dev82 d, k0_dev82_lt d⟩, ⟨k0_dev83 d, k0_dev83_lt d⟩, ⟨k0_dev84 d, k0_dev84_lt d⟩, ⟨k0_dev85 d, k0_dev85_lt d⟩, ⟨k0_dev86 d, k0_dev86_lt d⟩, ⟨k0_dev87 d, k0_dev87_lt d⟩, ⟨k0_dev88 d, k0_dev88_lt d⟩, ⟨k0_dev89 d, k0_dev89_lt d⟩, ⟨k0_dev90 d, k0_dev90_lt d⟩, ⟨k0_dev91 d, k0_dev91_lt d⟩, ⟨k0_dev92 d, k0_dev92_lt d⟩, ⟨k0_dev93 d, k0_dev93_lt d⟩]

/-- The body as printed is the phases at the printed peers and offsets. -/
def bodyP : KProg F :=
  .op .deviceId fun d =>
    phases (dv1 d) (dv2 d) (dv3 d) ⟨k0_off1 d, k0_off1_inb d⟩ ⟨k0_off2 d, k0_off2_inb d⟩
      (fun j => ⟨k0_off3 d (BitVec.ofNat 32 (1 + j.val)), k0_off3_inb d j⟩) ⟨k0_off4 d, k0_off4_inb d⟩ ⟨k0_off5 d, k0_off5_inb d⟩

set_option maxRecDepth 65536 in
set_option maxHeartbeats 4000000 in
theorem body_eq : cc0_body (F := F) xM (Memref.isWhole_whole _) wqM (Memref.isWhole_whole _) kM (Memref.isWhole_whole _) vM (Memref.isWhole_whole _)
    woM (Memref.isWhole_whole _) outM (Memref.isWhole_whole _) ctxM (Memref.isWhole_whole _) parM (Memref.isWhole_whole _)
    rsM (Memref.isWhole_whole _) redM (Memref.isWhole_whole _) kvM (Memref.isWhole_whole _)
    cc0_scratch5 cc0_scratch6 cc0_scratch7 cc0_scratch8 cc0_scratch9 = bodyP := rfl

end Cert.KernelIdeal.Run

end
-- ==== Proof.Geometry.lean ====
/-
  The mesh's arithmetic (who step `j` writes to and who writes to step `j`'s slot), the kernel's offsets in closed
  form, and where the elements of its views lie in their buffers.
-/
module

public import proofs.«01_k».proof.Proof.Phases
public import Idealize.ShloMosaic.Lib.ValueLayout
public import Idealize.ShloMosaic.Lib.Pipeline.ValueKit.Geometry

@[expose] public section

noncomputable section

namespace Cert.KernelIdeal.Run

open Idealize.ShloMosaic Idealize.SL.Sem Idealize.ShloMosaic.ValueIdx
open Cert.KernelIdeal.Gen

variable {F : FTy → Type} [FloatOps F]

/-! ## Peers -/

/-- The device step `j` of device `d` writes to. -/
def nx (d : Dev nD) (j : Fin 31) : Dev nD := ⟨(d.val + j.val + 1) % 32, Nat.mod_lt _ (by decide)⟩
/-- The device that writes to slot `j` of device `d`. -/
def pr (d : Dev nD) (j : Fin 31) : Dev nD := ⟨(d.val + 31 - j.val) % 32, Nat.mod_lt _ (by decide)⟩

theorem pr_nx (d : Dev nD) (j : Fin 31) : pr (nx d j) j = d := by
  obtain ⟨d, hd⟩ := d; have := j.isLt; refine Fin.ext ?_; show ((d + j.val + 1) % 32 + 31 - j.val) % 32 = d
  have : d < 32 := hd; omega
theorem nx_pr (d : Dev nD) (j : Fin 31) : nx (pr d j) j = d := by
  obtain ⟨d, hd⟩ := d; have := j.isLt; refine Fin.ext ?_; show ((d + 31 - j.val) % 32 + j.val + 1) % 32 = d
  have : d < 32 := hd; omega
/-- Seen from the peer, the way back is the mirrored step. -/
theorem nx_rev (d : Dev nD) (j : Fin 31) : nx (nx d j) j.rev = d := by
  obtain ⟨d, hd⟩ := d; have := j.isLt; refine Fin.ext ?_
  show ((d + j.val + 1) % 32 + (Fin.rev j).val + 1) % 32 = d
  rw [Fin.val_rev]; have : d < 32 := hd; omega
theorem nx_ne (d : Dev nD) (j : Fin 31) : nx d j ≠ d := fun h => by
  have h' : (d.val + j.val + 1) % 32 = d.val := congrArg Fin.val h
  have := j.isLt; have : d.val < 32 := d.isLt; omega
theorem pr_ne (d : Dev nD) (j : Fin 31) : pr d j ≠ d := fun h => by
  have := nx_pr d j; rw [h] at this; exact nx_ne d j this
theorem nx_inj (d : Dev nD) : Function.Injective (nx d) := fun j j' h => by
  have h' : (d.val + j.val + 1) % 32 = (d.val + j'.val + 1) % 32 := congrArg Fin.val h
  have := j.isLt; have := j'.isLt; have : d.val < 32 := d.isLt; exact Fin.ext (by omega)
theorem pr_inj (d : Dev nD) : Function.Injective (pr d) := fun j j' h => by
  have h' : (d.val + 31 - j.val) % 32 = (d.val + 31 - j'.val) % 32 := congrArg Fin.val h
  have := j.isLt; have := j'.isLt; have : d.val < 32 := d.isLt; exact Fin.ext (by omega)
/-- Every other device is a step's peer. -/
theorem exists_nx (d p : Dev nD) (h : p ≠ d) : ∃ j, nx d j = p := by
  have hd : d.val < 32 := d.isLt; have hp : p.val < 32 := p.isLt
  have hne : p.val ≠ d.val := fun e => h (Fin.ext e)
  refine ⟨⟨(p.val + 31 - d.val) % 32, by omega⟩, Fin.ext ?_⟩
  show (d.val + (p.val + 31 - d.val) % 32 + 1) % 32 = p.val
  omega
theorem exists_pr (d p : Dev nD) (h : p ≠ d) : ∃ j, pr d j = p := by
  have hd : d.val < 32 := d.isLt; have hp : p.val < 32 := p.isLt
  have hne : p.val ≠ d.val := fun e => h (Fin.ext e)
  refine ⟨⟨(d.val + 31 - p.val) % 32, by omega⟩, Fin.ext ?_⟩
  show (d.val + 31 - (d.val + 31 - p.val) % 32) % 32 = p.val
  omega

/-- Seen by step: every device's peer, and back. -/
def nxEquiv (j : Fin 31) : Dev nD ≃ Dev nD := ⟨fun d => nx d j, fun d => pr d j, fun d => pr_nx d j, fun d => nx_pr d j⟩

/-! ## Offsets -/

/-- The rows device `d` reduces. -/
def row (d : Dev nD) : RowOff := ⟨![8 * d.val, 0], by
  have : d.val < 32 := d.isLt
  intro a; fin_cases a
  · show 8 * d.val + 8 ≤ 256; omega
  · show 0 + 512 ≤ 512; omega⟩
/-- Device `d`'s heads of batch `b` in the flattened keys or values. -/
def kvOff (d : Dev nD) (b : Fin 2) : KvOff := ⟨![b.val, 0, 256 * d.val], by
  have : d.val < 32 := d.isLt
  intro a; fin_cases a
  · show b.val + 1 ≤ 2; omega
  · show 0 + 128 ≤ 128; omega
  · show 256 * d.val + 256 ≤ 8192; omega⟩

theorem dv1_eq (d : Dev nD) : dv1 d = nx d := by
  funext j; refine Fin.ext ?_
  fin_cases j
  · exact k0_dev1_eq d
  · exact k0_dev2_eq d
  · exact k0_dev3_eq d
  · exact k0_dev4_eq d
  · exact k0_dev5_eq d
  · exact k0_dev6_eq d
  · exact k0_dev7_eq d
  · exact k0_dev8_eq d
  · exact k0_dev9_eq d
  · exact k0_dev10_eq d
  · exact k0_dev11_eq d
  · exact k0_dev12_eq d
  · exact k0_dev13_eq d
  · exact k0_dev14_eq d
  · exact k0_dev15_eq d
  · exact k0_dev16_eq d
  · exact k0_dev17_eq d
  · exact k0_dev18_eq d
  · exact k0_dev19_eq d
  · exact k0_dev20_eq d
  · exact k0_dev21_eq d
  · exact k0_dev22_eq d
  · exact k0_dev23_eq d
  · exact k0_dev24_eq d
  · exact k0_dev25_eq d
  · exact k0_dev26_eq d
  · exact k0_dev27_eq d
  · exact k0_dev28_eq d
  · exact k0_dev29_eq d
  · exact k0_dev30_eq d
  · exact k0_dev31_eq d
/-- The three runs of peers are printed thrice, from equal words. -/
theorem dv2_eq (d : Dev nD) : dv2 d = nx d := (show dv2 d = dv1 d from rfl).trans (dv1_eq d)
theorem dv3_eq (d : Dev nD) : dv3 d = nx d := (show dv3 d = dv1 d from rfl).trans (dv1_eq d)

theorem off3_eq (d : Dev nD) :
    (fun j => ⟨k0_off3 d (BitVec.ofNat 32 (1 + j.val)), k0_off3_inb d j⟩ : Fin 31 → RowOff) = fun j => row (nx d j) := by
  funext j; refine Subtype.ext ?_
  refine (k0_off3_eq d j).trans ?_
  show ![8 * ((d.val + j.val + 1) % 32), 0] = ![8 * ((d.val + j.val + 1) % 32), 0]
  rfl
theorem off4_eq (d : Dev nD) : (⟨k0_off4 d, k0_off4_inb d⟩ : RowOff) = row d := Subtype.ext (k0_off4_eq d)
theorem off5_eq (d : Dev nD) : (⟨k0_off5 d, k0_off5_inb d⟩ : RowOff) = row d := Subtype.ext (k0_off5_eq d)
theorem off1_eq (d : Dev nD) : (⟨k0_off1 d, k0_off1_inb d⟩ : KvOff) = kvOff d 0 := Subtype.ext (k0_off1_eq d)
theorem off2_eq (d : Dev nD) : (⟨k0_off2 d, k0_off2_inb d⟩ : KvOff) = kvOff d 1 := Subtype.ext (k0_off2_eq d)

/-- The phases on device `d`, peers and offsets in closed form. -/
def phasesAt (d : Dev nD) : KProg F :=
  phases (nx d) (nx d) (nx d) (kvOff d 0) (kvOff d 1) (fun j => row (nx d j)) (row d) (row d)

theorem bodyP_eq : (bodyP : KProg F) = .op .deviceId fun d => phasesAt d := by
  unfold bodyP phasesAt
  refine congrArg (Prog.op TpuEff.deviceId) (funext fun d => ?_)
  rw [dv1_eq, dv2_eq, dv3_eq, off3_eq, off4_eq, off5_eq, off1_eq, off2_eq]

/-! ## Where views' elements lie -/

/-- Row block `d`'s element `(r, q)`. -/
theorem row_emb (d : Dev nD) (r : Fin 8) (q : Fin 512) :
    (rowRc (row d)).emb (ix2 r q) = ix2 (⟨8 * d.val + r.val, by have : d.val < 32 := d.isLt; have := r.isLt; omega⟩ : Fin 256) q := by
  funext a; refine Fin.ext ?_
  rw [ValueKit.rect_emb_unit_val]
  match a with
  | ⟨0, _⟩ => rfl
  | ⟨1, _⟩ => exact Nat.zero_add _

theorem par_emb (d : Dev nD) (r : Fin 8) (q : Fin 512) :
    (rowSl parM (row d)).view.emb (ix2 r q) = ix2 (⟨8 * d.val + r.val, by have : d.val < 32 := d.isLt; have := r.isLt; omega⟩ : Fin 256) q :=
  row_emb d r q
theorem out_emb (d : Dev nD) (r : Fin 8) (q : Fin 512) :
    (rowSl outM (row d)).view.emb (ix2 r q) = ix2 (⟨8 * d.val + r.val, by have : d.val < 32 := d.isLt; have := r.isLt; omega⟩ : Fin 256) q :=
  row_emb d r q

/-- Slot `j`'s element `(r, q)`. -/
theorem rs_emb (j : Fin 31) (r : Fin 8) (q : Fin 512) : (rsSl j).view.emb (ix2 r q) = ix3 j r q := by
  show (Rect.unit (s := S31x8x512) ![j.val, 0, 0] S1x8x512.size (rs_inb j)).emb (Shape.reshapeEquiv _ (ix2 r q)) = ix3 j r q
  refine (congrArg _ (reshapeEquiv_ix2_1ab _ r q)).trans ?_
  funext a; refine Fin.ext ?_
  rw [ValueKit.rect_emb_unit_val]
  match a with
  | ⟨0, _⟩ => rfl
  | ⟨1, _⟩ => exact Nat.zero_add _
  | ⟨2, _⟩ => exact Nat.zero_add _

/-- Key and value slot `i`'s element `(r, q)`. -/
theorem kv_emb (i : Fin 4) (r : Fin 128) (q : Fin 256) :
    (kvSl i).view.emb (ix2 r q) = ix4 (⟨i.val / 2, by have := i.isLt; omega⟩ : Fin 2) (⟨i.val % 2, by omega⟩ : Fin 2) r q := by
  show (Rect.unit (s := S2x2x128x256) ![i.val / 2, i.val % 2, 0, 0] S1x1x128x256.size (kv_inb i)).emb (Shape.reshapeEquiv _ (ix2 r q)) = _
  refine (congrArg _ (reshapeEquiv_ix2_11ab _ r q)).trans ?_
  funext a; refine Fin.ext ?_
  rw [ValueKit.rect_emb_unit_val]
  match a with
  | ⟨0, _⟩ => rfl
  | ⟨1, _⟩ => rfl
  | ⟨2, _⟩ => exact Nat.zero_add _
  | ⟨3, _⟩ => exact Nat.zero_add _

/-- Device `d`'s heads of batch `b`: element `(r, q)` of the block. -/
theorem hbm_emb (d : Dev nD) (b : Fin 2) (r : Fin 128) (q : Fin 256) :
    (Rect.unit (s := S2x128x8192) (kvOff d b).1 S1x128x256.size (kvOff d b).2).emb (ix3 (0 : Fin 1) r q)
      = ix3 b r (⟨256 * d.val + q.val, by have : d.val < 32 := d.isLt; have := q.isLt; omega⟩ : Fin 8192) := by
  funext a; refine Fin.ext ?_
  rw [ValueKit.rect_emb_unit_val]
  match a with
  | ⟨0, _⟩ => rfl
  | ⟨1, _⟩ => exact Nat.zero_add _
  | ⟨2, _⟩ => rfl
theorem k_emb (d : Dev nD) (b : Fin 2) (r : Fin 128) (q : Fin 256) :
    (hbmSl kM (kvOff d b)).view.emb (ix2 r q) = ix3 b r (⟨256 * d.val + q.val, by have : d.val < 32 := d.isLt; have := q.isLt; omega⟩ : Fin 8192) :=
  (congrArg _ (reshapeEquiv_ix2_1ab _ r q)).trans (hbm_emb d b r q)
theorem v_emb (d : Dev nD) (b : Fin 2) (r : Fin 128) (q : Fin 256) :
    (hbmSl vM (kvOff d b)).view.emb (ix2 r q) = ix3 b r (⟨256 * d.val + q.val, by have : d.val < 32 := d.isLt; have := q.isLt; omega⟩ : Fin 8192) :=
  (congrArg _ (reshapeEquiv_ix2_1ab _ r q)).trans (hbm_emb d b r q)

/-! ## Which elements a view has -/

theorem mem_rowRc (d : Dev nD) (i : S256x512.Idx) : i ∈ (rowRc (row d)).set ↔ (i 0).val / 8 = d.val := by
  rw [Rect.mem_set_unit]
  have h0 : (i 0).val < 256 := (i 0).isLt
  have h1 : (i 1).val < 512 := (i 1).isLt
  constructor
  · intro h
    have h2 : 8 * d.val ≤ (i 0).val ∧ (i 0).val < 8 * d.val + 8 := h 0
    omega
  · intro h a
    match a with
    | ⟨0, _⟩ => show 8 * d.val ≤ (i 0).val ∧ (i 0).val < 8 * d.val + 8; omega
    | ⟨1, _⟩ => show 0 ≤ (i 1).val ∧ (i 1).val < 0 + 512; omega
theorem mem_par (d : Dev nD) (i : S256x512.Idx) : i ∈ (rowSl parM (row d)).view.set ↔ (i 0).val / 8 = d.val :=
  ValueKit.mem_set_slice_whole_iff cc0_scratch1 (rowRc (row d)) i (mem_rowRc d i)
theorem mem_out (d : Dev nD) (i : S256x512.Idx) : i ∈ (rowSl outM (row d)).view.set ↔ (i 0).val / 8 = d.val :=
  ValueKit.mem_set_slice_whole_iff cc0_stg3_0 (rowRc (row d)) i (mem_rowRc d i)
theorem rs_emb' (j : Fin 31) (x : S8x512.Idx) : (rsSl j).view.emb x = ix3 j (x 0 : Fin 8) (x 1 : Fin 512) :=
  (congrArg _ (eq_ix2 x)).trans (rs_emb j (x 0) (x 1))
theorem kv_emb' (i : Fin 4) (x : S128x256.Idx) : (kvSl i).view.emb x
    = ix4 (⟨i.val / 2, by have := i.isLt; omega⟩ : Fin 2) (⟨i.val % 2, by omega⟩ : Fin 2) (x 0 : Fin 128) (x 1 : Fin 256) :=
  (congrArg _ (eq_ix2 x)).trans (kv_emb i (x 0) (x 1))
theorem mem_rs (j : Fin 31) (i : S31x8x512.Idx) : i ∈ (rsSl j).view.set ↔ (i 0).val = j.val := by
  constructor
  · intro h
    obtain ⟨x, -, hx⟩ := Finset.mem_map.mp h
    exact congrArg (fun z : S31x8x512.Idx => (z 0).val) (hx.symm.trans (rs_emb' j x))
  · intro h
    refine Finset.mem_map.mpr ⟨ix2 (i 1 : Fin 8) (i 2 : Fin 512), Finset.mem_univ _, (rs_emb j (i 1) (i 2)).trans ?_⟩
    refine Eq.trans ?_ (eq_ix3 i).symm
    rw [show j = (i 0 : Fin 31) from Fin.ext h.symm]; rfl
theorem mem_kv (k : Fin 4) (i : S2x2x128x256.Idx) : i ∈ (kvSl k).view.set ↔ (i 0).val * 2 + (i 1).val = k.val := by
  constructor
  · intro h
    obtain ⟨x, -, hx⟩ := Finset.mem_map.mp h
    refine (congrArg (fun z : S2x2x128x256.Idx => (z 0).val * 2 + (z 1).val) (hx.symm.trans (kv_emb' k x))).trans ?_
    show k.val / 2 * 2 + k.val % 2 = k.val; omega
  · intro h
    have h1 : (i 1).val < 2 := (i 1).isLt
    refine Finset.mem_map.mpr ⟨ix2 (i 2 : Fin 128) (i 3 : Fin 256), Finset.mem_univ _, (kv_emb k (i 2) (i 3)).trans ?_⟩
    refine Eq.trans ?_ (eq_ix4 i).symm
    rw [show (⟨k.val / 2, by have := k.isLt; omega⟩ : Fin 2) = (i 0 : Fin 2) from Fin.ext (by show k.val / 2 = (i 0).val; omega),
      show (⟨k.val % 2, by omega⟩ : Fin 2) = (i 1 : Fin 2) from Fin.ext (by show k.val % 2 = (i 1).val; omega)]; rfl

end Cert.KernelIdeal.Run

end
-- ==== Proof.Proto.lean ====
/-
  What every buffer holds at each stage, as functions of the memory the program starts in, and the protocol of the
  devices' semaphores: which cell's duty hands over which elements at which contents.
-/
module

public import proofs.«01_k».proof.Proof.Geometry
public import proofs.«01_k».proof.Proof.Gen.KernelIdeal.Launch
public import Idealize.ShloMosaic.Lib.Pipeline.RegionTalk
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.SparseCore.Stream

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The proof's user algebra: the pipeline library's and the protocol's, whose duties are counted by the steps. -/
abbrev UU : Type := UR sig nD τ × URounds (GSem nD τ sig) (Fin 31)

local notation "𝕄" => MT nD τ sig Unit (Elt F) ℕ UU ℕ

abbrev EP : Emb (UR sig nD τ) (MT nD τ sig Unit (Elt F) ℕ UU ℕ) := embL
abbrev ER : Emb (URounds (GSem nD τ sig) (Fin 31)) (MT nD τ sig Unit (Elt F) ℕ UU ℕ) := embR

variable (m : (ℓ : Loc nD τ sig) → Buf (Elt F) ℓ)

/-! ## Contents -/

abbrev V₀ (c : Dev nD) : Valuation τ sig (Elt F) := fun b => m ((c : Dev nD), b)
/-- At the kernel's call: after the two reshapes. -/
abbrev V₁ (c : Dev nD) : Valuation τ sig (Elt F) := StableHlo.after hostOps0 (V₀ m c)

/-- The kernel's operands on device `c`: input, query weights, output weights, flattened keys and values. -/
def xT (c : Dev nD) : Vec F S2x128x512 .f32 := V₁ m c main_arg0
def wqT (c : Dev nD) : Vec F S512x256 .f32 := V₁ m c main_arg1
def woT (c : Dev nD) : Vec F S256x512 .f32 := V₁ m c main_arg4
def kT (c : Dev nD) : Vec F S2x128x8192 .f32 := V₁ m c main_v1
def vT (c : Dev nD) : Vec F S2x128x8192 .f32 := V₁ m c main_v2

/-- The key and value scratch on device `c`: keys then values, by batch, of the device's own four heads. -/
def KV (c : Dev nD) : Vec F S2x2x128x256 .f32 := fun i =>
  (if (i 0).val = 0 then kT m c else vT m c)
    (ix3 (i 1 : Fin 2) (i 2 : Fin 128) (⟨256 * c.val + (i 3).val, by have : c.val < 32 := c.isLt; have : (i 3).val < 256 := (i 3).isLt; omega⟩ : Fin 8192))
/-- Slot `k` of it. -/
def kvB (c : Dev nD) (k : Fin 4) : Vec F S1x1x128x256 .f32 := fun i =>
  KV m c (ix4 (⟨k.val / 2, by have := k.isLt; omega⟩ : Fin 2) (⟨k.val % 2, by omega⟩ : Fin 2) (i 2 : Fin 128) (i 3 : Fin 256))

/-- The projected queries of device `c`. -/
def QQ (c : Dev nD) : FVec F S256x256 .f32 := k0_pay1 (xT m c) (wqT m c)
/-- What device `c`'s eight (batch, head) pairs store. -/
def HD (c : Dev nD) : Fin 8 → FVec F S128x64 .f32 := ![
  k0_pay14 (k0_pay13 (QQ m c) maskV (kvB m c 0) (kvB m c 2)),
  k0_pay15 (QQ m c) maskV (k0_pay11 (kvB m c 0)) (k0_pay12 (kvB m c 2)),
  k0_pay17 (k0_pay16 (QQ m c) maskV (k0_pay11 (kvB m c 0)) (k0_pay12 (kvB m c 2))),
  k0_pay18 (QQ m c) maskV (k0_pay11 (kvB m c 0)) (k0_pay12 (kvB m c 2)),
  k0_pay23 (k0_pay21 (kvB m c 3)) (k0_pay22 (QQ m c) maskV (kvB m c 1)),
  k0_pay24 (QQ m c) maskV (k0_pay19 (kvB m c 1)) (k0_pay20 (kvB m c 3)),
  k0_pay27 (k0_pay25 (k0_pay20 (kvB m c 3))) (k0_pay26 (QQ m c) maskV (k0_pay19 (kvB m c 1))),
  k0_pay28 (QQ m c) maskV (k0_pay19 (kvB m c 1)) (k0_pay20 (kvB m c 3))]
/-- Which pair an element of the context buffer belongs to. -/
def headOf (i : S256x256.Idx) : Fin 8 :=
  ⟨(i 0).val / 128 * 4 + (i 1).val / 64, by have : (i 0).val < 256 := (i 0).isLt; have : (i 1).val < 256 := (i 1).isLt; omega⟩
/-- The context buffer of device `c`. -/
def CTX (c : Dev nD) : Vec F S256x256 .f32 := fun i =>
  HD m c (headOf i) (ix2 (⟨(i 0).val % 128, Nat.mod_lt _ (by decide)⟩ : Fin 128) (⟨(i 1).val % 64, Nat.mod_lt _ (by decide)⟩ : Fin 64))
/-- Device `c`'s partial product. -/
def PAR (c : Dev nD) : Vec F S256x512 .f32 := k0_pay29 (CTX m c) (woT m c)
/-- What lands on device `c`: slot `j` holds the rows `c` reduces of the partial product of the slot's writer. -/
def RS (c : Dev nD) : Vec F S31x8x512 .f32 := fun i =>
  PAR m (pr c (i 0 : Fin 31)) (ix2 (⟨8 * c.val + (i 1).val, by have : c.val < 32 := c.isLt; have : (i 1).val < 8 := (i 1).isLt; omega⟩ : Fin 256) (i 2 : Fin 512))
/-- Device `c`'s own rows of its partial product. -/
def OWN (c : Dev nD) : Vec F S8x512 .f32 := fun x =>
  PAR m c (ix2 (⟨8 * c.val + (x 0).val, by have : c.val < 32 := c.isLt; have : (x 0).val < 8 := (x 0).isLt; omega⟩ : Fin 256) (x 1 : Fin 512))
/-- Device `c`'s reduced rows. -/
def RED (c : Dev nD) : Vec F S8x512 .f32 := k0_pay30 (OWN m c) (RS m c)
/-- The result, on every device: each row from the device that reduces it. -/
def OUT : Vec F S256x512 .f32 := fun i =>
  RED m ⟨(i 0).val / 8, by have : (i 0).val < 256 := (i 0).isLt; show (i 0).val / 8 < 32; omega⟩
    (ix2 (⟨(i 0).val % 8, Nat.mod_lt _ (by decide)⟩ : Fin 8) (i 1 : Fin 512))

theorem pay31_eq (p : Vec F S8x512 .f32) (r : Vec F S31x8x512 .f32) : k0_pay31 p r = k0_pay30 p r := by
  unfold k0_pay31; exact shapeCast_self _ _

/-! ## Cells -/

/-- The four runs of thirty-one semaphores: departures and arrivals of the first exchange, then of the second. -/
abbrev ch (a : Fin 4) (j : Fin 31) : DmaSem sig :=
  ⟨4 + 31 * a.val + j.val, by have := a.isLt; have := j.isLt; show 4 + 31 * a.val + j.val < 132; omega⟩

/-- What a semaphore is for. -/
inductive Role
  | bar | ch (a : Fin 4) (j : Fin 31) | kv (i : Fin 4) | other
  deriving DecidableEq

/-- The DMA semaphores' purposes by number. -/
def roleD (s : DmaSem sig) : Role :=
  if s.val < 4 then .other
  else if h : s.val < 128 then .ch ⟨(s.val - 4) / 31, by omega⟩ ⟨(s.val - 4) % 31, Nat.mod_lt _ (by decide)⟩
  else .kv ⟨s.val - 128, by have : s.val < 132 := s.isLt; omega⟩
def role : SemLoc sig → Role
  | .reg s => if s = barS then .bar else .other
  | .dma s => roleD s

theorem role_bar : role (.reg barS) = .bar := by
  show (if (barS : Sem sig) = barS then Role.bar else .other) = _
  exact if_pos rfl
theorem role_ch (a : Fin 4) (j : Fin 31) : role (.dma (ch a j)) = .ch a j := by
  have := a.isLt; have := j.isLt
  show roleD _ = _
  unfold roleD
  rw [if_neg (by show ¬ 4 + 31 * a.val + j.val < 4; omega), dif_pos (show 4 + 31 * a.val + j.val < 128 by omega)]
  congr 1
  · exact Fin.ext (by show (4 + 31 * a.val + j.val - 4) / 31 = a.val; omega)
  · exact Fin.ext (by show (4 + 31 * a.val + j.val - 4) % 31 = j.val; omega)
theorem role_kv (i : Fin 4) : role (.dma (kvS i)) = .kv i := by
  have := i.isLt
  show roleD _ = _
  unfold roleD
  rw [if_neg (by show ¬ 128 + i.val < 4; omega), dif_neg (show ¬ 128 + i.val < 128 by omega)]
  congr 1
  exact Fin.ext (by show 128 + i.val - 128 = i.val; omega)

abbrev barCell (c : Dev nD) : GSem nD τ sig := ((c : Thread nD τ), .reg barS)
abbrev chCell (a : Fin 4) (c : Dev nD) (j : Fin 31) : GSem nD τ sig := ((c : Thread nD τ), .dma (ch a j))
abbrev kvCell (c : Dev nD) (i : Fin 4) : GSem nD τ sig := ((c : Thread nD τ), .dma (kvS i))

/-! ## Points-tos -/

/-- Elements of a view on device `c`. -/
abbrev vPts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f
/-- A whole buffer on device `c`. -/
abbrev pt (c : Dev nD) (b : Ref sig .tc) (f : b.ty.Contents (Elt F)) : sProp 𝕄 := ((c : Thread nD τ).loc b) ↦{fullShare} f

/-- The share of the reduced rows that step `j`'s copy reads. -/
abbrev shr (j : Fin 31) : PosShare TreeShare := piece fullShare 30 j
/-- The share of the keys (of the values) that a batch's copy reads. -/
abbrev kvQ (i : Fin 4) : PosShare TreeShare := if i.val % 2 = 0 then fullShare.left else fullShare.right
/-- The source of copy `i` on device `c`, as the copy's view names it. -/
abbrev kvSrcAt (c : Dev nD) (i : Fin 4) : Memref sig .tc .hbm S128x256 .f32 := kvSrc (kvOff c 0) (kvOff c 1) i
abbrev kvF (c : Dev nD) (i : Fin 4) : Buf (Elt F) ((kvSrcAt c i).view.loc (c : Thread nD τ)) := V₁ m c ((kvSrcAt c i).view.loc (c : Thread nD τ)).2

/-- Credits of the copies. -/
abbrev N : ℕ := (rsSl 0).view.dmaCredit
abbrev NK : ℕ := (kvSl 0).view.dmaCredit
theorem N_pos : 0 < N := View.dmaCredit_pos _ (by decide)
theorem NK_pos : 0 < NK := View.dmaCredit_pos _ (by decide)

/-! ## The schedule -/

/-- Duty `d` of device `p`'s barrier cell, paid by `nx p d`: the payer's slot `d` and its output rows of `p`, and that the
    two cells `p`'s copies will arrive on are open. -/
def barPay (p : Dev nD) (d : Fin 31) : sProp 𝕄 :=
  iprop((∃ f, vPts (F := F) (nx p d) (rsSl d) fullShare f) ∗ (∃ f, vPts (F := F) (nx p d) (rowSl outM (row p)) fullShare f)
    ∗ reached ER (chCell 1 (nx p d) d) 0 ∗ reached ER (chCell 3 (nx p d) d) 0)
/-- The copies' duties: the source back, or the destination at what landed. -/
def chPay (c : Dev nD) (a : Fin 4) (j : Fin 31) : sProp 𝕄 :=
  if a = 0 then vPts c (rowSl parM (row (nx c j))) fullShare (PAR m c)
  else if a = 1 then vPts c (rsSl j) fullShare (RS m c)
  else if a = 2 then vPts c redM (shr j) (RED m c)
  else vPts c (rowSl outM (row (pr c j))) fullShare (OUT m)
def kvPay (c : Dev nD) (i : Fin 4) : sProp 𝕄 :=
  iprop(vPts c (kvSl i) fullShare (KV m c) ∗ vPts c (kvSrcAt c i) (kvQ i) (kvF m c i))

/-- One round: thirty-one duties of one unit on each barrier cell, one duty on each copy's cell. -/
def Rd : Rounds.Schedule (GSem nD τ sig) (Fin 31) 𝕄 where
  duties g r := if r = 0 ∧ g.1.2 = .tc then (match role g.2 with | .bar => Finset.univ | .ch _ _ => {0} | .kv _ => {0} | .other => ∅) else ∅
  unitless _ := False
  amount g _ _ := match role g.2 with | .bar => 1 | .ch _ _ => N | .kv _ => NK | .other => 1
  payload g _ d := match role g.2 with
    | .bar => barPay g.1.1 d
    | .ch a j => chPay m g.1.1 a j
    | .kv i => kvPay m g.1.1 i
    | .other => iprop(emp)
  amount_pos g _ _ _ := by
    cases role g.2
    · exact Nat.one_pos
    · exact N_pos
    · exact NK_pos
    · exact Nat.one_pos

set_option synthInstance.maxHeartbeats 400000 in
instance barPay_storable (p : Dev nD) (d : Fin 31) : BI.Storable (upEmb : UEmb _ 𝕄) (barPay (F := F) p d) := by
  unfold barPay; infer_instance
instance chPay_storable (c : Dev nD) (a : Fin 4) (j : Fin 31) : BI.Storable (upEmb : UEmb _ 𝕄) (chPay m c a j) := by
  unfold chPay; (repeat' split) <;> infer_instance
instance kvPay_storable (c : Dev nD) (i : Fin 4) : BI.Storable (upEmb : UEmb _ 𝕄) (kvPay m c i) := by
  unfold kvPay; infer_instance
instance Rd_payload_storable (g : GSem nD τ sig) (r : ℕ) (d : Fin 31) :
    BI.Storable (upEmb : UEmb _ 𝕄) ((Rd (F := F) m).payload g r d) := by
  show BI.Storable upEmb (match role g.2 with
    | .bar => barPay g.1.1 d | .ch a j => chPay m g.1.1 a j | .kv i => kvPay m g.1.1 i | .other => iprop(emp))
  cases role g.2 <;> infer_instance

section Sched
variable (c : Dev nD) (a : Fin 4) (j : Fin 31) (i : Fin 4) (d : Fin 31)

theorem duties_bar : (Rd (F := F) m).duties (barCell c) 0 = Finset.univ := by dsimp only [Rd]; rw [if_pos ⟨rfl, rfl⟩, role_bar]
theorem duties_ch : (Rd (F := F) m).duties (chCell a c j) 0 = {0} := by dsimp only [Rd]; rw [if_pos ⟨rfl, rfl⟩, role_ch]
theorem duties_kv : (Rd (F := F) m).duties (kvCell c i) 0 = {0} := by dsimp only [Rd]; rw [if_pos ⟨rfl, rfl⟩, role_kv]
theorem duties_later (g : GSem nD τ sig) : ∀ r, 1 ≤ r → (Rd (F := F) m).duties g r = ∅ :=
  fun r hr => by dsimp only [Rd]; rw [if_neg (fun h => by omega)]

theorem amount_bar : (Rd (F := F) m).amount (barCell c) 0 d = 1 := by dsimp only [Rd]; rw [role_bar]
theorem amount_ch : (Rd (F := F) m).amount (chCell a c j) 0 d = N := by dsimp only [Rd]; rw [role_ch]
theorem amount_kv : (Rd (F := F) m).amount (kvCell c i) 0 d = NK := by dsimp only [Rd]; rw [role_kv]

theorem expect_bar : (Rd (F := F) m).expect (barCell c) 0 = 31 := by
  unfold Schedule.expect Schedule.amountOf; rw [duties_bar, Finset.sum_congr rfl (fun d _ => amount_bar m c d)]; rfl
theorem expect_ch : (Rd (F := F) m).expect (chCell a c j) 0 = N := by
  unfold Schedule.expect Schedule.amountOf; rw [duties_ch, Finset.sum_singleton, amount_ch]
theorem expect_kv : (Rd (F := F) m).expect (kvCell c i) 0 = NK := by
  unfold Schedule.expect Schedule.amountOf; rw [duties_kv, Finset.sum_singleton, amount_kv]

theorem payload_bar : (Rd (F := F) m).payload (barCell c) 0 d = barPay c d := by dsimp only [Rd]; rw [role_bar]
theorem payload_ch : (Rd (F := F) m).payload (chCell a c j) 0 d = chPay m c a j := by dsimp only [Rd]; rw [role_ch]
theorem payload_kv : (Rd (F := F) m).payload (kvCell c i) 0 d = kvPay m c i := by dsimp only [Rd]; rw [role_kv]

theorem rest_bar : bigSep ((Rd (F := F) m).duties (barCell c) 0 \ ∅) (fun d => (Rd (F := F) m).payload (barCell c) 0 d)
    = bigSep Finset.univ fun d => barPay (F := F) c d := by
  rw [Finset.sdiff_empty, duties_bar]; exact bigSep_congr fun d _ => payload_bar m c d
theorem rest_ch : bigSep ((Rd (F := F) m).duties (chCell a c j) 0 \ ∅) (fun d => (Rd (F := F) m).payload (chCell a c j) 0 d) = chPay m c a j := by
  rw [Finset.sdiff_empty, duties_ch, bigSep_singleton, payload_ch]
theorem rest_kv : bigSep ((Rd (F := F) m).duties (kvCell c i) 0 \ ∅) (fun d => (Rd (F := F) m).payload (kvCell c i) 0 d) = kvPay m c i := by
  rw [Finset.sdiff_empty, duties_kv, bigSep_singleton, payload_kv]

end Sched

/-! ## What each core owes; the levels -/

/-- A tally for each step of a list, on top of another. -/
def dueL (f : Fin 31 → CellTallies nD τ sig Unit) (l : List (Fin 31)) (B : CellTallies nD τ sig Unit) : CellTallies nD τ sig Unit :=
  l.foldr (fun j O => O + f j) B

/-- Step `j`'s barrier unit; its arrival's credit in the first and in the second exchange. -/
abbrev barDue (c : Dev nD) (j : Fin 31) : CellTallies nD τ sig Unit := tallyAt (barCell (nx c j)) () 1
abbrev chDue (a : Fin 4) (c : Dev nD) (j : Fin 31) : CellTallies nD τ sig Unit := tallyAt (chCell a (nx c j) j) () N

/-- Owed before the second exchange, before the first, at launch. -/
abbrev Oc (c : Dev nD) : CellTallies nD τ sig Unit := dueL (chDue 3 c) steps 0
abbrev Ob (c : Dev nD) : CellTallies nD τ sig Unit := dueL (chDue 1 c) steps (Oc c)
abbrev O₀ (c : Dev nD) : CellTallies nD τ sig Unit := dueL (barDue c) steps (Ob c)

def L (g : GSem nD τ sig) : Finset Unit := if g.1.2 = .tc then {()} else ∅
/-- Barrier cells at 1, the first exchange's arrivals at 2, the second's at 3, the rest at 0. -/
def lvR : Role → ℕ
  | .bar => 1
  | .ch a _ => if a = 1 then 2 else if a = 3 then 3 else 0
  | .kv _ => 0
  | .other => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]; rfl
theorem lv_ch (a : Fin 4) (c : Dev nD) (j : Fin 31) : lv (chCell a c j) () = if a = 1 then 2 else if a = 3 then 3 else 0 := by
  unfold lv; rw [role_ch]; rfl
theorem lv_kv (c : Dev nD) (i : Fin 4) : lv (kvCell c i) () = 0 := by unfold lv; rw [role_kv]; rfl

/-- A tally whose cells are TensorCore cells at levels above `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)
theorem above_tally (b : ℕ) (c : Dev nD) (sm : SemLoc sig) (k : ℕ) (h : b < lv ((c : Thread nD τ), sm) ()) :
    Above b (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem above_dueL (b : ℕ) (f : Fin 31 → CellTallies nD τ sig Unit) (hf : ∀ j, Above b (f j)) (B : CellTallies nD τ sig Unit) (hB : Above b B) :
    ∀ l, Above b (dueL f l B)
  | [] => hB
  | j :: l => fun g u h => by
    have h' : 0 < dueL f l B g u + f j g u := h
    rcases Nat.eq_zero_or_pos (f j g u) with e | e
    · exact above_dueL b f hf B hB l g u (by omega)
    · exact hf j g u e

theorem above_Oc (c : Dev nD) : Above 2 (Oc c) :=
  above_dueL 2 _ (fun j => above_tally 2 _ _ _ (by rw [lv_ch]; decide)) 0 (above_zero 2) steps
theorem Above.mono {b b' : ℕ} (h : b' ≤ b) {O : CellTallies nD τ sig Unit} (hO : Above b O) : Above b' O :=
  fun g u hg => ⟨(hO g u hg).1, Nat.lt_of_le_of_lt h (hO g u hg).2⟩
theorem above_Ob (c : Dev nD) : Above 1 (Ob c) :=
  above_dueL 1 _ (fun j => above_tally 1 _ _ _ (by rw [lv_ch]; decide)) _ ((above_Oc c).mono (by decide)) steps

/-- A wait at level at most `b` while everything owed lies above `b`. -/
theorem mayWait (c : Dev nD) (sm : SemLoc sig) (b : ℕ) (O : CellTallies nD τ sig Unit) (hb : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by
      have h := (hO g u hg).1
      unfold L; rw [if_pos h]; exact Finset.mem_singleton_self _)
    (fun p hp => by rw [Finset.mem_singleton.mp hp]; exact hb)
    (fun g u hg => (hO g u hg).2)

end Cert.KernelIdeal.Run

end
-- ==== Proof.Loops.lean ====
/-
  The runs of the body's loops: signals, sends and waits, each proved for one step and carried along the list of steps.
-/
module

public import proofs.«01_k».proof.Proof.Proto
public import Idealize.ShloMosaic.Lib.Pipeline.BigSepL

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program's run on device `c`. -/
abbrev wpc (c : Dev nD) (p : KProg F) (Q : PUnit → sProp 𝕄) : sProp 𝕄 :=
  wp frame (wpE (defs₀ (F := F)) 𝒱₀ (c : Thread nD τ) none) Set.univ p Q

/-- What a copy leaves at the destination's elements is `G` there, if `G` has the source's values in their places. -/
theorem landed_congr {sp : Space} {s : Shape} {e : EltTy} (c : Dev nD) (M : Memref sig .tc sp s e) (q : PosShare TreeShare)
    (fd G : Buf (Elt F) (M.view.loc (c : Thread nD τ))) (w : s.Idx → Elt F e)
    (h : ∀ x, G (M.view.emb x) = _root_.cast (congrArg (Elt F) M.view.elt_eq.symm) (w x)) :
    vPts (F := F) c M q (M.view.write (Elt F) fd w Finset.univ) = vPts c M q G := by
  refine pointsTo_congr fun i hi => ?_
  obtain ⟨x, -, rfl⟩ := Finset.mem_map.mp hi
  exact (View.write_emb_of_mem _ _ (Finset.mem_univ _)).trans (h x).symm

section Loops
variable (K : GSem nD τ sig → ℕ) (c : Dev nD)

/-- What step `j`'s signal spends. -/
def sigIn (j : Fin 31) : sProp 𝕄 :=
  iprop(cellInv ER (Rd m) (K (barCell (nx c j))) (barCell (nx c j)) ∗ dutyTok ER (barCell (nx c j)) 0 j.rev
    ∗ barPay (nx c j) j.rev ∗ reached ER (barCell (nx c j)) 0)

/-- The signals: each hands its peer a slot and a row block. -/
theorem run_sigs (O : CellTallies nD τ sig Unit) (W : Waits sig Unit) (k : KProg F) (Q : PUnit → sProp 𝕄) : ∀ l,
    iprop(bigSepL l (sigIn m K c) ∗ owes (c : Thread nD τ) (dueL (barDue c) l O) W ∗ (owes (c : Thread nD τ) O W -∗ wpc c k Q))
      ⊢ wpc c (each (eSig (nx c)) l k) Q
  | [] => by
    iintro ⟨-, HO, Hk⟩
    iapply Hk; iexact HO
  | j :: l => by
    rw [bigSepL_cons']
    iintro ⟨⟨Hj, Hl⟩, HO, Hk⟩
    unfold sigIn
    icases Hj with ⟨#HI, Ht, Hp, Hr⟩
    iapply (Rounds.wp_signal 𝒱₀ ER (Rd m) (c : Thread nD τ) none (dst := (nx c j : Thread nD τ)) (sem := barS) (r := 0) (d := j.rev)
        (κ := K (barCell (nx c j))) (by rw [duties_bar]; exact Finset.mem_univ _) (amount_bar m (nx c j) j.rev) ()
        (dueL (barDue c) l O) rfl) $$ [HO Ht Hp Hr]
    · isplitr; · iexact HI
      isplitl [HO]; · iexact HO
      isplitl [Ht]; · iexact Ht
      isplitl [Hp]; · rw [payload_bar]; iexact Hp
      iexact Hr
    iintro HO
    iapply (run_sigs O W k Q l)
    isplitl [Hl]; · iexact Hl
    isplitl [HO]; · iexact HO
    iexact Hk

/-! ## An exchange -/

/-- Step `j`'s copy of an exchange. -/
abbrev gSend (src dst : Fin 31 → Memref sig .tc .vmem S8x512 .f32) (a a' : Fin 4) (hsc : ∀ j, (dst j).view.ref.isScScratch = false)
    (h1 : ∀ j, (src j).view.WordExact) (h2 : ∀ j, (dst j).view.WordExact)
    (h3 : ∀ j, DmaTarget.Typed (nD := nD) (τ := τ) (p := Proc.tc) .vmem (.dma (ch a' j)) (.remote (Dev.tc (nx c j)) (dst j) (.dma (ch a j)) (hsc j)))
    (j : Fin 31) : KEff F :=
  .enqueueDma (src j) (.remote (Dev.tc (nx c j)) (dst j) (.dma (ch a j)) (hsc j)) (.dma (ch a' j)) (h1 j) (h2 j) (h3 j)
abbrev gWait (A B : Fin 31 → Memref sig .tc .vmem S8x512 .f32) (a : Fin 4) (h1 : ∀ j, (A j).view.WordExact) (h2 : ∀ j, (B j).view.WordExact)
    (j : Fin 31) : KEff F :=
  .waitDma2 (ch a j) (A j) (B j) (h1 j) (h2 j)

/-- What step `j`'s copy spends. -/
def sendIn (src dst : Fin 31 → Memref sig .tc .vmem S8x512 .f32) (a a' : Fin 4) (qs : Fin 31 → PosShare TreeShare)
    (fs : ∀ j, Buf (Elt F) ((src j).view.loc (c : Thread nD τ))) (j : Fin 31) : sProp 𝕄 :=
  iprop(cellInv ER (Rd m) (K (chCell a c j)) (chCell a c j) ∗ cellInv ER (Rd m) (K (chCell a' (nx c j) j)) (chCell a' (nx c j) j)
    ∗ vPts c (src j) (qs j) (fs j) ∗ (∃ fd, vPts (F := F) (nx c j) (dst j) fullShare fd)
    ∗ dutyTok ER (chCell a c j) 0 0 ∗ reached ER (chCell a c j) 0
    ∗ dutyTok ER (chCell a' (nx c j) j) 0 0 ∗ reached ER (chCell a' (nx c j) j) 0)

/-- The copies of an exchange: each lends its source and its destination until its waits. -/
theorem run_sends (src dst : Fin 31 → Memref sig .tc .vmem S8x512 .f32) (a a' : Fin 4) (hsc) (h1) (h2) (h3)
    (qs : Fin 31 → PosShare TreeShare) (fs : ∀ j, Buf (Elt F) ((src j).view.loc (c : Thread nD τ)))
    (hN : ∀ j, (dst j).view.amount (SemLoc.dma (ch a' j)) = N)
    (hp1 : ∀ j, vPts c (src j) (qs j) (fs j) ⊢ chPay m c a j)
    (hp2 : ∀ j fd, vPts (nx c j) (dst j) fullShare ((dst j).view.write (Elt F) fd ((src j).view.read (Elt F) (fs j)) Finset.univ) ⊢ chPay m (nx c j) a' j)
    (O : CellTallies nD τ sig Unit) (W : Waits sig Unit) (k : KProg F) (Q : PUnit → sProp 𝕄) : ∀ l,
    iprop(bigSepL l (sendIn m K c src dst a a' qs fs) ∗ owes (c : Thread nD τ) (dueL (chDue a' c) l O) W
        ∗ ((bigSepL l (fun j => cred (tallyAt (chCell a c j) () N)) ∗ owes (c : Thread nD τ) O W) -∗ wpc c k Q))
      ⊢ wpc c (each (gSend c src dst a a' hsc h1 h2 h3) l k) Q
  | [] => by
    iintro ⟨-, HO, Hk⟩
    iapply Hk
    isplitr; · rw [bigSepL_nil]; iempintro
    iexact HO
  | j :: l => by
    rw [bigSepL_cons', bigSepL_cons']
    iintro ⟨⟨Hj, Hl⟩, HO, Hk⟩
    unfold sendIn
    icases Hj with ⟨#HI, #HI', Hs, ⟨%fd, Hd⟩, Ht, Hr, Ht', Hr'⟩
    iapply (Rounds.wp_send_pointsTo 𝒱₀ ER (Rd m) (c : Thread nD τ) none (c' := (nx c j : Thread nD τ)) (src := src j) (dst := dst j)
        (sS := .dma (ch a j)) (sem := .dma (ch a' j)) (q := qs j) (fs := fs j) (κ₁ := K (chCell a c j)) (κ₂ := K (chCell a' (nx c j) j))
        (r₁ := 0) (r₂ := 0) (d₁ := 0) (d₂ := 0) (fd := fd)
        (by rw [duties_ch]; exact Finset.mem_singleton_self _) (by rw [duties_ch]; exact Finset.mem_singleton_self _)
        () () N (hN j) (amount_ch m c a j 0) (amount_ch m (nx c j) a' j 0) (dueL (chDue a' c) l O) rfl (W := W)
        (by rw [payload_ch]; exact hp1 j)
        (by rw [payload_ch]; exact hp2 j fd)) $$ [Hs Hd HO Ht Hr Ht' Hr']
    · isplitr; · iexact HI
      isplitr; · iexact HI'
      isplitl [Hs]; · iexact Hs
      isplitl [Hd]; · iexact Hd
      isplitl [HO]; · iexact HO
      isplitl [Ht]; · iexact Ht
      isplitl [Hr]; · iexact Hr
      isplitl [Ht']; · iexact Ht'
      iexact Hr'
    iintro ⟨Hc, HO⟩
    iapply (run_sends src dst a a' hsc h1 h2 h3 qs fs hN hp1 hp2 O W k Q l)
    isplitl [Hl]; · iexact Hl
    isplitl [HO]; · iexact HO
    iintro ⟨Hcs, HO⟩
    iapply Hk
    isplitl [Hc Hcs]
    · isplitl [Hc]; · iexact Hc
      iexact Hcs
    iexact HO

/-- What step `j`'s waits of an exchange spend, and what they give. -/
def waitIn (a a' : Fin 4) (j : Fin 31) : sProp 𝕄 :=
  iprop(cellInv ER (Rd m) (K (chCell a c j)) (chCell a c j) ∗ cellInv ER (Rd m) (K (chCell a' c j)) (chCell a' c j)
    ∗ cred (tallyAt (chCell a c j) () N) ∗ cred (tallyAt (chCell a' c j) () N)
    ∗ atPos ER (chCell a c j) 0 ∅ 0 ∗ atPos ER (chCell a' c j) 0 ∅ 0)
def waitOut (a a' : Fin 4) (j : Fin 31) : sProp 𝕄 :=
  iprop(chPay m c a j ∗ chPay m c a' j ∗ atPos ER (chCell a c j) 1 ∅ 0 ∗ atPos ER (chCell a' c j) 1 ∅ 0)

/-- The waits of an exchange: sources and landed destinations come back. -/
theorem run_waits (A B A' B' : Fin 31 → Memref sig .tc .vmem S8x512 .f32) (a a' : Fin 4) (h1) (h2) (h1') (h2')
    (hN : ∀ j, (B j).view.dmaCredit = N) (hN' : ∀ j, (B' j).view.dmaCredit = N)
    (O : CellTallies nD τ sig Unit)
    (hw : ∀ j, (levAts L lv : sProp 𝕄) ⊢ MayWait (c : Thread nD τ) (.dma (ch a j)) () O)
    (hw' : ∀ j, (levAts L lv : sProp 𝕄) ⊢ MayWait (c : Thread nD τ) (.dma (ch a' j)) () O)
    (k : KProg F) (Q : PUnit → sProp 𝕄) : ∀ l,
    iprop(levAts L lv ∗ bigSepL l (waitIn m K c a a') ∗ (∃ W, owes (c : Thread nD τ) O W)
        ∗ ((bigSepL l (waitOut m c a a') ∗ (∃ W, owes (c : Thread nD τ) O W)) -∗ wpc c k Q))
      ⊢ wpc c (each2 (gWait A B a h1 h2) (gWait A' B' a' h1' h2') l k) Q
  | [] => by
    iintro ⟨-, -, HO, Hk⟩
    iapply Hk
    isplitr; · rw [bigSepL_nil]; iempintro
    iexact HO
  | j :: l => by
    rw [bigSepL_cons', bigSepL_cons']
    iintro ⟨#Hlev, ⟨Hj, Hl⟩, ⟨%W, HO⟩, Hk⟩
    unfold waitIn
    icases Hj with ⟨#HI, #HI', Hc, Hc', Hat, Hat'⟩
    iapply (Rounds.wp_wait_rest_token 𝒱₀ ER (Rd m) (c : Thread nD τ) none (κ := K (chCell a c j))
        (wpE_waitDma2_eq (src := A j) (dst := B j) (hsrc := h1 j) (hdst := h2 j) 𝒱₀ (c : Thread nD τ) none Set.univ) (Set.mem_univ _) () (O := O) (W := W) (R := 0) (m := 0) (T := ∅)
        ((Nat.zero_add _).trans ((hN j).trans (expect_ch m c a j).symm))) $$ [Hc HO Hat]
    · isplitr; · iexact HI
      isplitl [Hc]; · rw [hN j]; iexact Hc
      isplitl [HO]; · iexact HO
      isplitr; · iapply (hw j); iexact Hlev
      iexact Hat
    iintro ⟨HO, Hat, -, Hp⟩
    ihave Hp := (Entails.of_eq (rest_ch m c a j)) $$ Hp
    iapply (Rounds.wp_wait_rest_token 𝒱₀ ER (Rd m) (c : Thread nD τ) none (κ := K (chCell a' c j))
        (wpE_waitDma2_eq (src := A' j) (dst := B' j) (hsrc := h1' j) (hdst := h2' j) 𝒱₀ (c : Thread nD τ) none Set.univ) (Set.mem_univ _) () (O := O) (R := 0) (m := 0) (T := ∅)
        ((Nat.zero_add _).trans ((hN' j).trans (expect_ch m c a' j).symm))) $$ [Hc' HO Hat']
    · isplitr; · iexact HI'
      isplitl [Hc']; · rw [hN' j]; iexact Hc'
      isplitl [HO]; · iexact HO
      isplitr; · iapply (hw' j); iexact Hlev
      iexact Hat'
    iintro ⟨HO, Hat', -, Hp'⟩
    ihave Hp' := (Entails.of_eq (rest_ch m c a' j)) $$ Hp'
    iapply (run_waits A B A' B' a a' h1 h2 h1' h2' hN hN' O hw hw' k Q l)
    isplitr; · iexact Hlev
    isplitl [Hl]; · iexact Hl
    isplitl [HO]; · iexists _; iexact HO
    iintro ⟨Hout, HO⟩
    iapply Hk
    isplitr [HO]
    · isplitr [Hout]
      · unfold waitOut
        isplitl [Hp]; · iexact Hp
        isplitl [Hp']; · iexact Hp'
        isplitl [Hat]; · iexact Hat
        iexact Hat'
      iexact Hout
    iexact HO

end Loops

end Cert.KernelIdeal.Run

end
-- ==== Proof.Middle.lean ====
/-
  The straight-line part of the body: the copies of the keys and values, the eight heads, the partial product.
-/
module

public import proofs.«01_k».proof.Proof.Loops
public import Idealize.ShloMosaic.Lib.Ring

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

section Middle
variable (K : GSem nD τ sig → ℕ) (c : Dev nD)

/-! ## The keys and values -/

/-- What copy `i` lands is slot `i` of the key and value scratch. -/
theorem kv_landed (i : Fin 4) (x : S128x256.Idx) : KV m c ((kvSl i).view.emb x)
    = _root_.cast (congrArg (Elt F) (kvSl i).view.elt_eq.symm) ((kvSrcAt c i).view.read (Elt F) (kvF m c i) x) := by
  refine (congrArg (KV m c) (kv_emb' i x)).trans ?_
  match i with
  | 0 => exact (congrArg (kT m c) ((congrArg _ (eq_ix2 x)).trans (k_emb c 0 (x 0) (x 1)))).symm
  | 1 => exact (congrArg (kT m c) ((congrArg _ (eq_ix2 x)).trans (k_emb c 1 (x 0) (x 1)))).symm
  | 2 => exact (congrArg (vT m c) ((congrArg _ (eq_ix2 x)).trans (v_emb c 0 (x 0) (x 1)))).symm
  | 3 => exact (congrArg (vT m c) ((congrArg _ (eq_ix2 x)).trans (v_emb c 1 (x 0) (x 1)))).symm

/-- Loading slot `i` whole reads its block. -/
theorem kv_read (i : Fin 4) : kvM.view.readAt (Elt F) (kvLd i).toLoadRect (KV m c) = kvB m c i := by
  funext x
  refine congrArg (KV m c) ?_
  have hx0 : (x 0).val < 1 := (x 0).isLt
  have hx1 : (x 1).val < 1 := (x 1).isLt
  funext a; refine Fin.ext ?_
  match a with
  | 0 => show i.val / 2 + 1 * (x 0).val = i.val / 2; omega
  | 1 => show i.val % 2 + 1 * (x 1).val = i.val % 2; omega
  | 2 => show 0 + 1 * (x 2).val = (x 2).val; omega
  | 3 => show 0 + 1 * (x 3).val = (x 3).val; omega

/-- What copy `i` spends. -/
def kvIn (i : Fin 4) : sProp 𝕄 :=
  iprop(cellInv ER (Rd m) (K (kvCell c i)) (kvCell c i) ∗ vPts c (kvSrcAt c i) (kvQ i) (kvF m c i)
    ∗ (∃ f, vPts (F := F) c (kvSl i) fullShare f) ∗ dutyTok ER (kvCell c i) 0 0 ∗ reached ER (kvCell c i) 0)

/-- Copy `i` of the keys and values. -/
theorem run_kv (i : Fin 4) (k : PUnit → KProg F) (Q : PUnit → sProp 𝕄) :
    iprop(kvIn m K c i ∗ (cred (tallyAt (kvCell c i) () NK) -∗ wpc c (k ⟨⟩) Q)) ⊢ wpc c (.op (eKv (kvOff c 0) (kvOff c 1) i) k) Q := by
  unfold kvIn
  iintro ⟨⟨#HI, Hs, ⟨%fd, Hd⟩, Ht, Hr⟩, Hk⟩
  iapply (Rounds.wp_copy_pointsTo 𝒱₀ ER (Rd m) (c : Thread nD τ) none (src := kvSrcAt c i) (dst := kvSl i)
      (sem := .dma (kvS i)) (q := kvQ i) (fs := kvF m c i) (fd := fd) (r := 0) (d := 0) (κ := K (kvCell c i))
      (by rw [duties_kv]; exact Finset.mem_singleton_self _) () NK rfl (amount_kv m c i 0)
      (by rw [payload_kv]; exact sep_mono (Entails.of_eq (landed_congr c (kvSl i) fullShare fd (KV m c) _ (kv_landed m c i))) .rfl)) $$ [Hs Hd Ht Hr]
  · isplitr; · iexact HI
    isplitl [Hs]; · iexact Hs
    isplitl [Hd]; · iexact Hd
    isplitl [Ht]; · iexact Ht
    iexact Hr
  iexact Hk

/-- What copy `i`'s wait spends. -/
def kvWt (i : Fin 4) : sProp 𝕄 :=
  iprop(cellInv ER (Rd m) (K (kvCell c i)) (kvCell c i) ∗ cred (tallyAt (kvCell c i) () NK) ∗ atPos ER (kvCell c i) 0 ∅ 0)

/-- Copy `i`'s wait. -/
theorem run_kvWait (i : Fin 4) (A : Memref sig .tc .hbm S128x256 .f32) (h1) (h2) (k : PUnit → KProg F) (Q : PUnit → sProp 𝕄) :
    iprop(levAts L lv ∗ kvWt m K c i ∗ (∃ W, owes (c : Thread nD τ) (Ob c) W)
        ∗ ((kvPay m c i ∗ atPos ER (kvCell c i) 1 ∅ 0 ∗ (∃ W, owes (c : Thread nD τ) (Ob c) W)) -∗ wpc c (k ⟨⟩) Q))
      ⊢ wpc c (.op (.waitDma2 (kvS i) A (kvSl i) h1 h2) k) Q := by
  unfold kvWt
  iintro ⟨#Hlev, ⟨#HI, Hc, Hat⟩, ⟨%W, HO⟩, Hk⟩
  iapply (Rounds.wp_wait_rest_token 𝒱₀ ER (Rd m) (c : Thread nD τ) none (κ := K (kvCell c i))
      (wpE_waitDma2_eq (src := A) (dst := kvSl i) (hsrc := h1) (hdst := h2) 𝒱₀ (c : Thread nD τ) none Set.univ) (Set.mem_univ _) ()
      (O := Ob c) (W := W) (R := 0) (m := 0) (T := ∅) ((Nat.zero_add _).trans (expect_kv m c i).symm)) $$ [Hc HO Hat]
  · isplitr; · iexact HI
    isplitl [Hc]; · iexact Hc
    isplitl [HO]; · iexact HO
    isplitr
    · iapply (mayWait c (.dma (kvS i)) 1 (Ob c) (by rw [lv_kv]; exact Nat.zero_le _) (above_Ob c)); iexact Hlev
    iexact Hat
  iintro ⟨HO, Hat, -, Hp⟩
  ihave Hp := (Entails.of_eq (rest_kv m c i)) $$ Hp
  iapply Hk
  isplitl [Hp]; · iexact Hp
  isplitl [Hat]; · iexact Hat
  iexists _; iexact HO

theorem kv_disj (i j : Fin 4) (h : i ≠ j) : Disjoint ((kvSl i).view.set : Finset S2x2x128x256.Idx) ((kvSl j).view.set : Finset S2x2x128x256.Idx) :=
  Finset.disjoint_left.mpr fun x hi hj => h (Fin.ext (((mem_kv i x).mp hi).symm.trans ((mem_kv j x).mp hj)))
theorem kv_cover : (Finset.univ : Finset (Fin 4)).biUnion (fun i => show Finset S2x2x128x256.Idx from (kvSl i).view.set) = Finset.univ := by
  refine Finset.eq_univ_iff_forall.mpr fun x => Finset.mem_biUnion.mpr ?_
  have h0 : (x 0).val < 2 := (x 0).isLt
  have h1 : (x 1).val < 2 := (x 1).isLt
  exact ⟨⟨(x 0).val * 2 + (x 1).val, by omega⟩, Finset.mem_univ _, (mem_kv _ x).mpr rfl⟩
/-- The key and value scratch is its four slots. -/
theorem kv_split (f : Vec F S2x2x128x256 .f32) :
    (pt c cc0_scratch4 f : sProp 𝕄) = bigSep Finset.univ fun i : Fin 4 => vPts (F := F) c (kvSl i) fullShare f :=
  Ring.pointsTo_blocks (ℓ := (c : Thread nD τ).loc cc0_scratch4) (fun i : Fin 4 => (kvSl i).view.set) kv_disj kv_cover f

/-! ## The heads -/

theorem ctx_emb (n : Fin 8) (x : S128x64.Idx) : (ctxM.access (ctxRc n)).emb x
    = ix2 (⟨n.val / 4 * 128 + (x 0).val, by have := n.isLt; have : (x 0).val < 128 := (x 0).isLt; omega⟩ : Fin 256)
        (⟨n.val % 4 * 64 + (x 1).val, by have := n.isLt; have : (x 1).val < 64 := (x 1).isLt; omega⟩ : Fin 256) := by
  funext a; refine Fin.ext ?_
  match a with
  | 0 => show n.val / 4 * 128 + 1 * (x 0).val = n.val / 4 * 128 + (x 0).val; omega
  | 1 => show n.val % 4 * 64 + 1 * (x 1).val = n.val % 4 * 64 + (x 1).val; omega

/-- The context buffer once the first `n` pairs are stored. -/
def Agree (n : ℕ) (f : Vec F S256x256 .f32) : Prop := ∀ i, (headOf i).val < n → f i = CTX m c i
/-- It, held. -/
def ctxAt (n : ℕ) : sProp 𝕄 := iprop(∃ f, ⌜Agree m c n f⌝ ∗ pt c cc0_scratch0 f)

theorem agree_store (n : Fin 8) (f : Vec F S256x256 .f32) (h : Agree m c n.val f) :
    Agree m c (n.val + 1) ((ctxM.access (ctxRc n)).write (Elt F) f (HD m c n) Finset.univ) := by
  intro i hi
  have hi0 : (i 0).val < 256 := (i 0).isLt
  have hi1 : (i 1).val < 256 := (i 1).isLt
  have hho : (headOf i).val = (i 0).val / 128 * 4 + (i 1).val / 64 := rfl
  by_cases hn : (headOf i).val = n.val
  · have he : (ctxM.access (ctxRc n)).emb (ix2 (⟨(i 0).val % 128, Nat.mod_lt _ (by decide)⟩ : Fin 128) (⟨(i 1).val % 64, Nat.mod_lt _ (by decide)⟩ : Fin 64)) = i := by
      refine (ctx_emb n _).trans (Eq.trans ?_ (eq_ix2 i).symm)
      refine congrArg₂ (fun a b : Fin 256 => (ix2 a b : S256x256.Idx)) (Fin.ext ?_) (Fin.ext ?_)
      · show n.val / 4 * 128 + (i 0).val % 128 = (i 0).val; omega
      · show n.val % 4 * 64 + (i 1).val % 64 = (i 1).val; omega
    have hw := View.write_emb_of_mem (v := ctxM.access (ctxRc n)) (Val := Elt F) f (HD m c n)
      (Finset.mem_univ (ix2 (⟨(i 0).val % 128, Nat.mod_lt _ (by decide)⟩ : Fin 128) (⟨(i 1).val % 64, Nat.mod_lt _ (by decide)⟩ : Fin 64)))
    rw [he] at hw
    refine hw.trans ?_
    have hh : headOf i = n := Fin.ext hn
    show HD m c n _ = HD m c (headOf i) _
    rw [hh]
  · refine (View.write_of_not_mem (v := ctxM.access (ctxRc n)) (Val := Elt F) f (HD m c n) Finset.univ ?_).trans (h i (by omega))
    intro hm
    obtain ⟨x, -, hx⟩ := Finset.mem_map.mp hm
    have hx' := (ctx_emb n x).symm.trans hx
    have e0 : n.val / 4 * 128 + (x 0).val = (i 0).val := congrArg (fun z : S256x256.Idx => (z 0).val) hx'
    have e1 : n.val % 4 * 64 + (x 1).val = (i 1).val := congrArg (fun z : S256x256.Idx => (z 1).val) hx'
    have : (x 0).val < 128 := (x 0).isLt
    have : (x 1).val < 64 := (x 1).isLt
    have := n.isLt
    exact hn (by omega)

/-- Pair `n`'s store. -/
theorem run_head (n : Fin 8) (v : FVec F S128x64 .f32) (hv : v = HD m c n) (k : KProg F) (Q : PUnit → sProp 𝕄) :
    iprop(ctxAt m c n.val ∗ (ctxAt m c (n.val + 1) -∗ wpc c k Q)) ⊢ wpc c (ldCtx n fun _ => stCtx n v k) Q := by
  subst hv
  unfold ctxAt
  iintro ⟨⟨%f, %hf, Hc⟩, Hk⟩
  iapply (wp_load (defs := defs₀ (F := F)) 𝒱₀ (c : Thread nD τ) none Set.univ (m := ctxM) (r := (ctxRc n).toLoadRect) (q := fullShare) (f := f) (Finset.subset_univ _)) $$ Hc
  iintro Hc
  iapply (wp_store (defs := defs₀ (F := F)) 𝒱₀ (c : Thread nD τ) none Set.univ (m := ctxM) (r := ctxRc n) (w := HD m c n) (f := f) (Finset.subset_univ _)) $$ Hc
  iintro Hc
  iapply Hk
  iexists _
  isplitr
  · ipureintro; exact agree_store m c n f hf
  iexact Hc

/-! ## The whole part -/

/-- What copy `i` and its wait spend, and what they leave besides the slot. -/
def kvIO (i : Fin 4) : sProp 𝕄 :=
  iprop(kvIn m K c i ∗ cellInv ER (Rd m) (K (kvCell c i)) (kvCell c i) ∗ atPos ER (kvCell c i) 0 ∅ 0)
def kvLeft (i : Fin 4) : sProp 𝕄 := iprop(vPts c (kvSrcAt c i) (kvQ i) (kvF m c i) ∗ atPos ER (kvCell c i) 1 ∅ 0)

theorem hz2 : (![0, 0] : Fin 2 → ℕ) = fun _ => 0 := by funext a; match a with | 0 => rfl | 1 => rfl
theorem hz3 : (![0, 0, 0] : Fin 3 → ℕ) = fun _ => 0 := by funext a; match a with | 0 => rfl | 1 => rfl | 2 => rfl

/-- Loading from elements held: the program goes on at what the buffer holds there. -/
theorem run_ld {cs : CoreSpace} {s : Shape} {e : EltTy} (M : Memref sig .tc cs s e) (r : LoadRect s) (hl) {S : Finset (Idx (M.view.loc (c : Thread nD τ)))}
    (hS : M.view.setOn r.set ⊆ S) (q : PosShare TreeShare) (f : Buf (Elt F) (M.view.loc (c : Thread nD τ))) (v : r.shape.Idx → Elt F e)
    (hv : M.view.readAt (Elt F) r f = v) (k : (r.shape.Idx → Elt F e) → KProg F) (Q : PUnit → sProp 𝕄) :
    iprop((M.view.loc (c : Thread nD τ) ↦[S]{q} f) ∗ ((M.view.loc (c : Thread nD τ) ↦[S]{q} f) -∗ wpc c (k v) Q)) ⊢ wpc c (.op (.load M r hl) k) Q := by
  subst hv
  iintro ⟨H, Hk⟩
  iapply (wp_load (defs := defs₀ (F := F)) 𝒱₀ (c : Thread nD τ) none Set.univ (m := M) (r := r) (q := q) (f := f) hS) $$ H
  iexact Hk
/-- Storing to elements held. -/
theorem run_st {cs : CoreSpace} {s : Shape} {e : EltTy} (M : Memref sig .tc cs s e) (r : Rect s) (hx) (hm) {S : Finset (Idx ((M.access r).loc (c : Thread nD τ)))}
    (hS : (M.access r).setOn Finset.univ ⊆ S) (f g : Buf (Elt F) ((M.access r).loc (c : Thread nD τ))) (w : r.shape.Idx → Elt F e)
    (hg : ∀ i ∈ S, (M.access r).write (Elt F) f w Finset.univ i = g i) (k : PUnit → KProg F) (Q : PUnit → sProp 𝕄) :
    iprop(((M.access r).loc (c : Thread nD τ) ↦[S]{fullShare} f) ∗ (((M.access r).loc (c : Thread nD τ) ↦[S]{fullShare} g) -∗ wpc c (k ⟨⟩) Q))
      ⊢ wpc c (.op (.store M r w Finset.univ hx hm) k) Q := by
  iintro ⟨H, Hk⟩
  iapply (wp_store (defs := defs₀ (F := F)) 𝒱₀ (c : Thread nD τ) none Set.univ (m := M) (r := r) (w := w) (f := f) hS) $$ H
  rw [pointsTo_congr (g := g) hg]
  iexact Hk

/-- The slots the key and value loads read are held with the whole scratch; the rest of the part follows the copies' waits. -/
def heads (x : Vec F S2x128x512 .f32) (wq : Vec F S512x256 .f32) (k : KProg F) : KProg F :=
  ldKv 0 fun k0 => ldKv 2 fun v0 =>
  ldCtx 0 fun _ => stCtx 0 (k0_pay14 (k0_pay13 (k0_pay1 x wq) maskV k0 v0)) <|
  ldCtx 1 fun _ => stCtx 1 (k0_pay15 (k0_pay1 x wq) maskV (k0_pay11 k0) (k0_pay12 v0)) <|
  ldCtx 2 fun _ => stCtx 2 (k0_pay17 (k0_pay16 (k0_pay1 x wq) maskV (k0_pay11 k0) (k0_pay12 v0))) <|
  ldCtx 3 fun _ => stCtx 3 (k0_pay18 (k0_pay1 x wq) maskV (k0_pay11 k0) (k0_pay12 v0)) <|
  ldKv 1 fun k1 => ldKv 3 fun v1 =>
  ldCtx 4 fun _ => stCtx 4 (k0_pay23 (k0_pay21 v1) (k0_pay22 (k0_pay1 x wq) maskV k1)) <|
  ldCtx 5 fun _ => stCtx 5 (k0_pay24 (k0_pay1 x wq) maskV (k0_pay19 k1) (k0_pay20 v1)) <|
  ldCtx 6 fun _ => stCtx 6 (k0_pay27 (k0_pay25 (k0_pay20 v1)) (k0_pay26 (k0_pay1 x wq) maskV (k0_pay19 k1))) <|
  ldCtx 7 fun _ => stCtx 7 (k0_pay28 (k0_pay1 x wq) maskV (k0_pay19 k1) (k0_pay20 v1)) <|
  .op (.load ctxM (Rect.unit (s := S256x256) ![0, 0] S256x256.size inb_S256x256_S256x256_0_0).toLoadRect (View.loadsAt_vmem h_S256x256)) fun ctx =>
  .op (.load woM (Rect.unit (s := S256x512) ![0, 0] S256x512.size inb_S256x512_S256x512_0_0).toLoadRect (View.loadsAt_vmem h_S256x512)) fun wo =>
  .op (.load parM (Rect.unit (s := S256x512) ![0, 0] S256x512.size inb_S256x512_S256x512_0_0).toLoadRect (View.loadsAt_vmem h_S256x512)) fun _ =>
  .op (.store parM (Rect.unit (s := S256x512) ![0, 0] S256x512.size inb_S256x512_S256x512_0_0) (k0_pay29 ctx wo) Finset.univ
    (View.stores_vmem_bits_univ h_S256x512 rfl) (.inl rfl)) fun _ => k

/-- The eight pairs and the partial product. -/
theorem run_heads (k : KProg F) (Q : PUnit → sProp 𝕄) :
    iprop(pt c cc0_scratch4 (KV m c) ∗ pt c cc0_stg2_0 (woT m c) ∗ ctxAt m c 0 ∗ (∃ f, pt (F := F) c cc0_scratch1 f)
        ∗ ((pt c cc0_scratch4 (KV m c) ∗ pt c cc0_stg2_0 (woT m c) ∗ ctxAt m c 8 ∗ pt c cc0_scratch1 (PAR m c)) -∗ wpc c k Q))
      ⊢ wpc c (heads (xT m c) (wqT m c) k) Q := by
  unfold heads
  iintro ⟨Hkv, Hwo, Hc, ⟨%fp, Hp⟩, Hk⟩
  iapply (run_ld c kvM _ _ (Finset.subset_univ _) fullShare (KV m c) _ (kv_read m c 0)); isplitl [Hkv]; · iexact Hkv
  iintro Hkv
  iapply (run_ld c kvM _ _ (Finset.subset_univ _) fullShare (KV m c) _ (kv_read m c 2)); isplitl [Hkv]; · iexact Hkv
  iintro Hkv
  iapply (run_head m c 0 _ rfl); isplitl [Hc]; · iexact Hc
  iintro Hc
  iapply (run_head m c 1 _ rfl); isplitl [Hc]; · iexact Hc
  iintro Hc
  iapply (run_head m c 2 _ rfl); isplitl [Hc]; · iexact Hc
  iintro Hc
  iapply (run_head m c 3 _ rfl); isplitl [Hc]; · iexact Hc
  iintro Hc
  iapply (run_ld c kvM _ _ (Finset.subset_univ _) fullShare (KV m c) _ (kv_read m c 1)); isplitl [Hkv]; · iexact Hkv
  iintro Hkv
  iapply (run_ld c kvM _ _ (Finset.subset_univ _) fullShare (KV m c) _ (kv_read m c 3)); isplitl [Hkv]; · iexact Hkv
  iintro Hkv
  iapply (run_head m c 4 _ rfl); isplitl [Hc]; · iexact Hc
  iintro Hc
  iapply (run_head m c 5 _ rfl); isplitl [Hc]; · iexact Hc
  iintro Hc
  iapply (run_head m c 6 _ rfl); isplitl [Hc]; · iexact Hc
  iintro Hc
  iapply (run_head m c 7 _ rfl); isplitl [Hc]; · iexact Hc
  unfold ctxAt
  iintro ⟨%f, %hf, Hc⟩
  have hcx : f = CTX m c := funext fun i => hf i (headOf i).isLt
  subst hcx
  iapply (run_ld c ctxM _ _ (Finset.subset_univ _) fullShare (CTX m c) _ (Memref.readAt_unit_zero (Elt F) cc0_scratch0 hz2 _ _)); isplitl [Hc]; · iexact Hc
  iintro Hc
  iapply (run_ld c woM _ _ (Finset.subset_univ _) fullShare (woT m c) _ (Memref.readAt_unit_zero (Elt F) cc0_stg2_0 hz2 _ _)); isplitl [Hwo]; · iexact Hwo
  iintro Hwo
  iapply (run_ld c parM _ _ (Finset.subset_univ _) fullShare fp _ (Memref.readAt_unit_zero (Elt F) cc0_scratch1 hz2 _ _)); isplitl [Hp]; · iexact Hp
  iintro Hp
  iapply (run_st c parM _ _ _ (Finset.subset_univ _) fp (PAR m c) _ (fun i _ => congrFun (Memref.write_access_unit_zero_univ (Elt F) cc0_scratch1 hz2 _ fp (PAR m c)) i)); isplitl [Hp]; · iexact Hp
  iintro Hp
  iapply Hk
  isplitl [Hkv]; · iexact Hkv
  isplitl [Hwo]; · iexact Hwo
  isplitl [Hc]
  · iexists _
    isplitr
    · ipureintro; exact hf
    iexact Hc
  iexact Hp

theorem middle_eq (o1 o2 : KvOff) (k : KProg F) : middle o1 o2 k =
  .op (eKv o1 o2 0) fun _ => .op (eKv o1 o2 1) fun _ => .op (eKv o1 o2 2) fun _ => .op (eKv o1 o2 3) fun _ =>
  .op (.load xM (Rect.unit (s := S2x128x512) ![0, 0, 0] S2x128x512.size inb_S2x128x512_S2x128x512_0_0_0).toLoadRect (View.loadsAt_vmem h_S2x128x512)) fun x =>
  .op (.load wqM (Rect.unit (s := S512x256) ![0, 0] S512x256.size inb_S512x256_S512x256_0_0).toLoadRect (View.loadsAt_vmem h_S512x256)) fun wq =>
  .op (.waitDma2 (kvS 0) (kvSrc o1 o2 0) (kvSl 0) (View.wordExact_bits rfl) (View.wordExact_bits rfl)) fun _ =>
  .op (.waitDma2 (kvS 1) (kvSrc o1 o2 1) (kvSl 1) (View.wordExact_bits rfl) (View.wordExact_bits rfl)) fun _ =>
  .op (.waitDma2 (kvS 2) (kvSrc o1 o2 2) (kvSl 2) (View.wordExact_bits rfl) (View.wordExact_bits rfl)) fun _ =>
  .op (.waitDma2 (kvS 3) (kvSrc o1 o2 3) (kvSl 3) (View.wordExact_bits rfl) (View.wordExact_bits rfl)) fun _ => heads x wq k := rfl

/-- From the copies of the keys and values to the store of the partial product. -/
theorem run_middle (k : KProg F) (Q : PUnit → sProp 𝕄) :
    iprop(levAts L lv ∗ (∃ W, owes (c : Thread nD τ) (Ob c) W) ∗ bigSepL [0, 1, 2, 3] (kvIO m K c)
        ∗ pt c cc0_stg0_0 (xT m c) ∗ pt c cc0_stg1_0 (wqT m c) ∗ pt c cc0_stg2_0 (woT m c)
        ∗ (∃ f, pt (F := F) c cc0_scratch0 f) ∗ (∃ f, pt (F := F) c cc0_scratch1 f)
        ∗ (((∃ W, owes (c : Thread nD τ) (Ob c) W) ∗ bigSepL [0, 1, 2, 3] (kvLeft m c)
            ∗ pt c cc0_stg0_0 (xT m c) ∗ pt c cc0_stg1_0 (wqT m c) ∗ pt c cc0_stg2_0 (woT m c)
            ∗ (∃ f, pt (F := F) c cc0_scratch0 f) ∗ pt c cc0_scratch1 (PAR m c) ∗ pt c cc0_scratch4 (KV m c)) -∗ wpc c k Q))
      ⊢ wpc c (middle (kvOff c 0) (kvOff c 1) k) Q := by
  rw [middle_eq]
  simp only [bigSepL_cons', bigSepL_nil]
  unfold kvIO kvLeft
  iintro ⟨#Hlev, HO, ⟨⟨H0, #I0, A0⟩, ⟨H1, #I1, A1⟩, ⟨H2, #I2, A2⟩, ⟨H3, #I3, A3⟩, -⟩, Hx, Hwq, Hwo, ⟨%fc, Hc⟩, Hp, Hk⟩
  iapply (run_kv m K c 0); isplitl [H0]; · iexact H0
  iintro C0
  iapply (run_kv m K c 1); isplitl [H1]; · iexact H1
  iintro C1
  iapply (run_kv m K c 2); isplitl [H2]; · iexact H2
  iintro C2
  iapply (run_kv m K c 3); isplitl [H3]; · iexact H3
  iintro C3
  iapply (run_ld c xM _ _ (Finset.subset_univ _) fullShare (xT m c) _ (Memref.readAt_unit_zero (Elt F) cc0_stg0_0 hz3 _ _)); isplitl [Hx]; · iexact Hx
  iintro Hx
  iapply (run_ld c wqM _ _ (Finset.subset_univ _) fullShare (wqT m c) _ (Memref.readAt_unit_zero (Elt F) cc0_stg1_0 hz2 _ _)); isplitl [Hwq]; · iexact Hwq
  iintro Hwq
  iapply (run_kvWait m K c 0)
  isplitr; · iexact Hlev
  unfold kvWt
  isplitl [C0 A0]
  · isplitr; · iexact I0
    isplitl [C0]; · iexact C0
    iexact A0
  isplitl [HO]; · iexact HO
  iintro ⟨P0, A0, HO⟩
  iapply (run_kvWait m K c 1)
  isplitr; · iexact Hlev
  unfold kvWt
  isplitl [C1 A1]
  · isplitr; · iexact I1
    isplitl [C1]; · iexact C1
    iexact A1
  isplitl [HO]; · iexact HO
  iintro ⟨P1, A1, HO⟩
  iapply (run_kvWait m K c 2)
  isplitr; · iexact Hlev
  unfold kvWt
  isplitl [C2 A2]
  · isplitr; · iexact I2
    isplitl [C2]; · iexact C2
    iexact A2
  isplitl [HO]; · iexact HO
  iintro ⟨P2, A2, HO⟩
  iapply (run_kvWait m K c 3)
  isplitr; · iexact Hlev
  unfold kvWt
  isplitl [C3 A3]
  · isplitr; · iexact I3
    isplitl [C3]; · iexact C3
    iexact A3
  isplitl [HO]; · iexact HO
  iintro ⟨P3, A3, HO⟩
  unfold kvPay
  icases P0 with ⟨D0, S0⟩
  icases P1 with ⟨D1, S1⟩
  icases P2 with ⟨D2, S2⟩
  icases P3 with ⟨D3, S3⟩
  iapply (run_heads m c)
  isplitl [D0 D1 D2 D3]
  · rw [kv_split, bigSep_univ_eq_bigSepL [(0 : Fin 4), 1, 2, 3] (by decide) (by decide)]
    simp only [bigSepL_cons', bigSepL_nil]
    isplitl [D0]; · iexact D0
    isplitl [D1]; · iexact D1
    isplitl [D2]; · iexact D2
    isplitl [D3]; · iexact D3
    iempintro
  isplitl [Hwo]; · iexact Hwo
  isplitl [Hc]
  · unfold ctxAt
    iexists fc
    isplitr
    · ipureintro; intro i h; exact absurd h (Nat.not_lt_zero _)
    iexact Hc
  isplitl [Hp]; · iexact Hp
  iintro ⟨Hkv, Hwo, Hc, Hp⟩
  iapply Hk
  isplitl [HO]; · iexact HO
  isplitl [S0 S1 S2 S3 A0 A1 A2 A3]
  · isplitl [S0 A0]
    · isplitl [S0]; · iexact S0
      iexact A0
    isplitl [S1 A1]
    · isplitl [S1]; · iexact S1
      iexact A1
    isplitl [S2 A2]
    · isplitl [S2]; · iexact S2
      iexact A2
    isplitl [S3 A3]
    · isplitl [S3]; · iexact S3
      iexact A3
    iempintro
  isplitl [Hx]; · iexact Hx
  isplitl [Hwq]; · iexact Hwq
  isplitl [Hwo]; · iexact Hwo
  isplitl [Hc]
  · unfold ctxAt
    icases Hc with ⟨%f, -, Hc⟩
    iexists f; iexact Hc
  isplitl [Hp]; · iexact Hp
  iexact Hkv

end Middle

end Cert.KernelIdeal.Run

end
-- ==== Proof.Blocks.lean ====
/-
  The buffers of the two exchanges held block by block, and held whole again.
-/
module

public import proofs.«01_k».proof.Proof.Middle
public import Idealize.ShloMosaic.Lib.SparseCore.Stream

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

section Blocks
variable (c : Dev nD)

/-! ## Row blocks -/

/-- Device `d`'s rows of a 256 × 512 buffer. -/
def rowSet (d : Dev nD) : Finset S256x512.Idx := (rowSl parM (row d)).view.set
theorem mem_rowSet (d : Dev nD) (i : S256x512.Idx) : i ∈ rowSet d ↔ (i 0).val / 8 = d.val := mem_par d i

/-- The own device, then the step's peer. -/
def peer (e : Fin 31 → Dev nD) : Unit ⊕ Fin 31 → Dev nD := Sum.elim (fun _ => c) e

theorem row_disj (e : Fin 31 → Dev nD) (hi : Function.Injective e) (hn : ∀ j, e j ≠ c) (a b : Unit ⊕ Fin 31) (h : a ≠ b) :
    Disjoint (rowSet (peer c e a)) (rowSet (peer c e b)) := by
  refine Finset.disjoint_left.mpr fun x ha hb => ?_
  have he : peer c e a = peer c e b := Fin.ext (((mem_rowSet _ x).mp ha).symm.trans ((mem_rowSet _ x).mp hb))
  match a, b with
  | .inl _, .inl _ => exact h rfl
  | .inl _, .inr j => exact hn j he.symm
  | .inr j, .inl _ => exact hn j he
  | .inr j, .inr j' => exact h (congrArg Sum.inr (hi he))

theorem row_cover (e : Fin 31 → Dev nD) (hs : ∀ p, p ≠ c → ∃ j, e j = p) :
    (Finset.univ : Finset (Unit ⊕ Fin 31)).biUnion (fun b => rowSet (peer c e b)) = Finset.univ := by
  refine Finset.eq_univ_iff_forall.mpr fun x => Finset.mem_biUnion.mpr ?_
  have hx : (x 0).val < 256 := (x 0).isLt
  let p : Dev nD := ⟨(x 0).val / 8, by show (x 0).val / 8 < 32; omega⟩
  by_cases hp : p = c
  · exact ⟨.inl (), Finset.mem_univ _, (mem_rowSet _ x).mpr (congrArg Fin.val hp)⟩
  · obtain ⟨j, hj⟩ := hs p hp
    exact ⟨.inr j, Finset.mem_univ _, (mem_rowSet _ x).mpr (congrArg Fin.val hj.symm)⟩

theorem row_blocks (b : Ref sig .tc) (I : Dev nD → Finset (Idx ((c : Thread nD τ).loc b))) (e : Fin 31 → Dev nD)
    (hd : ∀ x y, x ≠ y → Disjoint (I (peer c e x)) (I (peer c e y)))
    (hc : (Finset.univ : Finset (Unit ⊕ Fin 31)).biUnion (fun x => I (peer c e x)) = Finset.univ) (f : b.ty.Contents (Elt F)) :
    (pt c b f : sProp 𝕄) = iprop(((c : Thread nD τ).loc b ↦[I c]{fullShare} f) ∗ bigSep Finset.univ fun j : Fin 31 => (c : Thread nD τ).loc b ↦[I (e j)]{fullShare} f) := by
  refine (Ring.pointsTo_blocks (ℓ := (c : Thread nD τ).loc b) (fun x : Unit ⊕ Fin 31 => I (peer c e x)) hd hc f).trans ?_
  rw [bigSep_univ_sum, bigSep_univ_of_subsingleton ()]
  rfl

/-- The partial product is the own rows and each peer's. -/
theorem par_split (f : Vec F S256x512 .f32) : (pt c cc0_scratch1 f : sProp 𝕄)
    = iprop(vPts (F := F) c (rowSl parM (row c)) fullShare f ∗ bigSep Finset.univ fun j : Fin 31 => vPts (F := F) c (rowSl parM (row (nx c j))) fullShare f) :=
  row_blocks c cc0_scratch1 rowSet (nx c) (row_disj c (nx c) (nx_inj c) (nx_ne c)) (row_cover c (nx c) (exists_nx c)) f
/-- The output is the own rows and each peer's, forwards; -/
theorem out_split (f : Vec F S256x512 .f32) : (pt c cc0_stg3_0 f : sProp 𝕄)
    = iprop(vPts (F := F) c (rowSl outM (row c)) fullShare f ∗ bigSep Finset.univ fun j : Fin 31 => vPts (F := F) c (rowSl outM (row (nx c j))) fullShare f) :=
  row_blocks c cc0_stg3_0 rowSet (nx c) (row_disj c (nx c) (nx_inj c) (nx_ne c)) (row_cover c (nx c) (exists_nx c)) f
/-- and backwards. -/
theorem out_split' (f : Vec F S256x512 .f32) : (pt c cc0_stg3_0 f : sProp 𝕄)
    = iprop(vPts (F := F) c (rowSl outM (row c)) fullShare f ∗ bigSep Finset.univ fun j : Fin 31 => vPts (F := F) c (rowSl outM (row (pr c j))) fullShare f) :=
  row_blocks c cc0_stg3_0 rowSet (pr c) (row_disj c (pr c) (pr_inj c) (pr_ne c)) (row_cover c (pr c) (exists_pr c)) f

/-! ## Slots and shares -/

theorem rs_disj (i j : Fin 31) (h : i ≠ j) : Disjoint ((rsSl i).view.set : Finset S31x8x512.Idx) ((rsSl j).view.set : Finset S31x8x512.Idx) :=
  Finset.disjoint_left.mpr fun x hi hj => h (Fin.ext (((mem_rs i x).mp hi).symm.trans ((mem_rs j x).mp hj)))
theorem rs_cover : (Finset.univ : Finset (Fin 31)).biUnion (fun i => show Finset S31x8x512.Idx from (rsSl i).view.set) = Finset.univ :=
  Finset.eq_univ_iff_forall.mpr fun x => Finset.mem_biUnion.mpr ⟨(x 0 : Fin 31), Finset.mem_univ _, (mem_rs _ x).mpr rfl⟩
/-- The landing buffer is its slots. -/
theorem rs_split (f : Vec F S31x8x512 .f32) :
    (pt c cc0_scratch2 f : sProp 𝕄) = bigSep Finset.univ fun j : Fin 31 => vPts (F := F) c (rsSl j) fullShare f :=
  Ring.pointsTo_blocks (ℓ := (c : Thread nD τ).loc cc0_scratch2) (fun i : Fin 31 => (rsSl i).view.set) rs_disj rs_cover f

/-- The reduced rows are the thirty-one shares the second exchange reads. -/
theorem red_split (f : Vec F S8x512 .f32) :
    (pt c cc0_scratch3 f : sProp 𝕄) = bigSep Finset.univ fun j : Fin 31 => vPts (F := F) c redM (shr j) f := by
  have hs : (redM.view.set : Finset (Idx ((c : Thread nD τ).loc cc0_scratch3))) = Finset.univ := View.set_whole cc0_scratch3
  refine (pointsTo_pieces (ℓ := (c : Thread nD τ).loc cc0_scratch3) Finset.univ f 30 fullShare).trans (bigSep_congr fun j _ => ?_)
  show _ = ((c : Thread nD τ).loc cc0_scratch3 ↦[redM.view.set]{shr j} f)
  rw [hs]

/-- One entry per step, in the order of the steps. -/
theorem by_steps (Φ : Fin 31 → sProp 𝕄) : bigSep Finset.univ Φ = bigSepL steps Φ := bigSep_univ_eq_bigSepL steps (by decide) (by decide) Φ

/-! ## What lands -/

/-- The first exchange: the rows of a device's partial product land in its slot. -/
theorem send1_pay (j : Fin 31) (fd) :
    vPts (F := F) (nx c j) (rsSl j) fullShare ((rsSl j).view.write (Elt F) fd ((rowSl parM (row (nx c j))).view.read (Elt F) (PAR m c)) Finset.univ)
      ⊢ chPay m (nx c j) 1 j := by
  show _ ⊢ (vPts (nx c j) (rsSl j) fullShare (RS m (nx c j)) : sProp 𝕄)
  refine Entails.of_eq (landed_congr _ _ _ _ _ _ fun x => ?_)
  refine (congrArg (RS m (nx c j)) (rs_emb' j x)).trans ?_
  show PAR m (pr (nx c j) j) _ = PAR m c ((rowSl parM (row (nx c j))).view.emb x)
  rw [pr_nx]
  exact congrArg (PAR m c) (((congrArg _ (eq_ix2 x)).trans (par_emb (nx c j) (x 0) (x 1))).symm)

/-- Rows `d` of the result are what device `d` reduced. -/
theorem out_at (d : Dev nD) (r : Fin 8) (q : Fin 512) :
    OUT m (ix2 (⟨8 * d.val + r.val, by have : d.val < 32 := d.isLt; have := r.isLt; omega⟩ : Fin 256) q) = RED m d (ix2 r q) := by
  have hr := r.isLt
  show RED m ⟨(8 * d.val + r.val) / 8, _⟩ (ix2 ⟨(8 * d.val + r.val) % 8, _⟩ q) = _
  rw [show (⟨(8 * d.val + r.val) / 8, by have : d.val < 32 := d.isLt; show _ < 32; omega⟩ : Dev nD) = d from Fin.ext (by show (8 * d.val + r.val) / 8 = d.val; omega),
    show (⟨(8 * d.val + r.val) % 8, Nat.mod_lt _ (by decide)⟩ : Fin 8) = r from Fin.ext (by show (8 * d.val + r.val) % 8 = r.val; omega)]

theorem out_at_emb (d : Dev nD) (x : S8x512.Idx) : OUT m ((rowSl outM (row d)).view.emb x) = RED m d x := by
  have e : (rowSl outM (row d)).view.emb x = _ := (congrArg _ (eq_ix2 x)).trans (out_emb d (x 0) (x 1))
  refine (congrArg (OUT m) e).trans ((out_at m d (x 0) (x 1)).trans (congrArg (RED m d) (eq_ix2 x).symm))

/-- The second exchange: a device's reduced rows land in its rows of the output. -/
theorem send2_pay (j : Fin 31) (fd) :
    vPts (F := F) (nx c j) (rowSl outM (row c)) fullShare ((rowSl outM (row c)).view.write (Elt F) fd (redM.view.read (Elt F) (RED m c)) Finset.univ)
      ⊢ chPay m (nx c j) 3 j := by
  show _ ⊢ (vPts (nx c j) (rowSl outM (row (pr (nx c j) j))) fullShare (OUT m) : sProp 𝕄)
  rw [pr_nx]
  exact Entails.of_eq (landed_congr _ _ _ _ _ _ fun x => out_at_emb m c x)

/-- The own rows read. -/
theorem own_read : parM.view.readAt (Elt F) (rowRc (row c)).toLoadRect (PAR m c) = OWN m c := by
  funext x
  exact congrArg (PAR m c) ((congrArg _ (eq_ix2 x)).trans (par_emb c (x 0) (x 1)))

end Blocks

end Cert.KernelIdeal.Run

end
-- ==== Proof.Holdings.lean ====
/-
  The body's run on a device: signals, the partial product, the first exchange, the reduction, the second exchange.
-/
module

public import proofs.«01_k».proof.Proof.Blocks

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

section Body
variable (K : GSem nD τ sig → ℕ) (c : Dev nD)

/-! ## What the body holds -/

/-- A cell known to be set up, and its first round reached. -/
def known (g : GSem nD τ sig) : sProp 𝕄 := iprop(cellInv ER (Rd m) (K g) g ∗ reached ER g 0)
instance known_persistent (g : GSem nD τ sig) : Persistent (known m K g) := by unfold known; infer_instance

/-- The cells step `j` touches. -/
def stepK (j : Fin 31) : sProp 𝕄 :=
  iprop(known m K (barCell (nx c j)) ∗ known m K (chCell 0 c j) ∗ known m K (chCell 1 c j) ∗ known m K (chCell 2 c j) ∗ known m K (chCell 3 c j)
    ∗ cellInv ER (Rd m) (K (chCell 1 (nx c j) j)) (chCell 1 (nx c j) j) ∗ cellInv ER (Rd m) (K (chCell 3 (nx c j) j)) (chCell 3 (nx c j) j))
instance stepK_persistent (j : Fin 31) : Persistent (stepK m K c j) := by unfold stepK; infer_instance
/-- All steps' cells. -/
def allK : sProp 𝕄 := bigSep Finset.univ (stepK m K c)
instance allK_persistent : Persistent (allK m K c) := by unfold allK; infer_instance

theorem allK_at (j : Fin 31) : allK m K c ⊢ stepK m K c j := bigSep_elim (Finset.mem_univ j)
/-- Each step's resources, with the cells known. -/
theorem with_allK {Φ Ψ : Fin 31 → sProp 𝕄} (h : ∀ j, iprop(allK m K c ∗ Φ j) ⊢ Ψ j) : iprop(allK m K c ∗ bigSep Finset.univ Φ) ⊢ bigSepL steps Ψ := by
  rw [← by_steps]
  exact bigSep_with_persistent fun j _ => h j

abbrev atAll (a : Fin 4) (R : ℕ) : sProp 𝕄 := bigSep Finset.univ fun j : Fin 31 => atPos ER (chCell a c j) R ∅ 0
abbrev credAll (a : Fin 4) : sProp 𝕄 := bigSep Finset.univ fun j : Fin 31 => cred (tallyAt (chCell a c j) () N)
/-- The duty tokens of an exchange: departures on the own cells, arrivals on the peers'. -/
abbrev tokOwn (a : Fin 4) : sProp 𝕄 := bigSep Finset.univ fun j : Fin 31 => dutyTok ER (chCell a c j) 0 0
abbrev tokNx (a : Fin 4) : sProp 𝕄 := bigSep Finset.univ fun j : Fin 31 => dutyTok ER (chCell a (nx c j) j) 0 0
abbrev tokBar : sProp 𝕄 := bigSep Finset.univ fun j : Fin 31 => dutyTok ER (barCell (nx c j)) 0 j.rev

/-- Copy `i`'s cell, token and source. -/
def kvK (i : Fin 4) : sProp 𝕄 :=
  iprop(known m K (kvCell c i) ∗ atPos ER (kvCell c i) 0 ∅ 0 ∗ dutyTok ER (kvCell c i) 0 0 ∗ vPts c (kvSrcAt c i) (kvQ i) (kvF m c i))

/-- A buffer at some contents. -/
abbrev anyB (b : Ref sig .tc) : sProp 𝕄 := iprop(∃ f, pt (F := F) c b f)

/-- Before the body's effects. -/
def bodyIn : sProp 𝕄 :=
  iprop(levAts L lv ∗ (∃ W, owes (c : Thread nD τ) (O₀ c) W) ∗ allK m K c
    ∗ (cellInv ER (Rd m) (K (barCell c)) (barCell c) ∗ cred (tallyAt (barCell c) () 31) ∗ atPos ER (barCell c) 0 ∅ 0)
    ∗ tokBar c ∗ (tokOwn c 0 ∗ tokNx c 1 ∗ credAll c 1 ∗ atAll c 0 0 ∗ atAll c 1 0)
    ∗ (tokOwn c 2 ∗ tokNx c 3 ∗ credAll c 3 ∗ atAll c 2 0 ∗ atAll c 3 0)
    ∗ bigSep Finset.univ (kvK m K c)
    ∗ (pt c cc0_stg0_0 (xT m c) ∗ pt c cc0_stg1_0 (wqT m c) ∗ pt c cc0_stg2_0 (woT m c) ∗ anyB c cc0_stg3_0)
    ∗ anyB c cc0_scratch0 ∗ anyB c cc0_scratch1 ∗ anyB c cc0_scratch2 ∗ anyB c cc0_scratch3 ∗ anyB c cc0_scratch4)
/-- After them. -/
def bodyOut : sProp 𝕄 :=
  iprop((∃ W, owes (c : Thread nD τ) 0 W) ∗ atPos ER (barCell c) 1 ∅ 0 ∗ (atAll c 0 1 ∗ atAll c 1 1) ∗ (atAll c 2 1 ∗ atAll c 3 1)
    ∗ bigSep Finset.univ (kvLeft m c)
    ∗ (pt c cc0_stg0_0 (xT m c) ∗ pt c cc0_stg1_0 (wqT m c) ∗ pt c cc0_stg2_0 (woT m c) ∗ pt c cc0_stg3_0 (OUT m))
    ∗ anyB c cc0_scratch0 ∗ anyB c cc0_scratch1 ∗ anyB c cc0_scratch2 ∗ anyB c cc0_scratch3 ∗ anyB c cc0_scratch4)

/-! ## The phases' spendings -/

/-- The signals'. -/
theorem sigs_in (fr : Vec F S31x8x512 .f32) (fo : Vec F S256x512 .f32) :
    iprop(allK m K c ∗ tokBar c ∗ pt c cc0_scratch2 fr ∗ pt c cc0_stg3_0 fo)
      ⊢ iprop(vPts (F := F) c (rowSl outM (row c)) fullShare fo ∗ bigSepL steps (sigIn m K c)) := by
  rw [rs_split, out_split, bigSep_univ_equiv Fin.revPerm (fun j : Fin 31 => vPts (F := F) c (rsSl j) fullShare fr)]
  iintro ⟨#HK, Ht, Hr, Ho, Hos⟩
  isplitl [Ho]; · iexact Ho
  iapply (with_allK m K c (Φ := fun j => iprop(dutyTok ER (barCell (nx c j)) 0 j.rev ∗ vPts (F := F) c (rsSl j.rev) fullShare fr
      ∗ vPts (F := F) c (rowSl outM (row (nx c j))) fullShare fo)) fun j => ?_)
  · unfold sigIn barPay
    rw [nx_rev]
    iintro ⟨#HK, Ht, Hr, Ho⟩
    ihave H1 := (allK_at m K c j) $$ HK
    ihave H2 := (allK_at m K c j.rev) $$ HK
    unfold stepK known
    icases H1 with ⟨⟨#HI, #HR⟩, -⟩
    icases H2 with ⟨-, -, ⟨-, #R1⟩, -, ⟨-, #R3⟩, -⟩
    isplitr; · iexact HI
    isplitl [Ht]; · iexact Ht
    isplitl [Hr Ho]
    · isplitl [Hr]; · iexists fr; iexact Hr
      isplitl [Ho]; · iexists fo; iexact Ho
      isplitr; · iexact R1
      iexact R3
    iexact HR
  · isplitr; · iexact HK
    rw [bigSep_sep', bigSep_sep']
    isplitl [Ht]; · iexact Ht
    isplitl [Hr]; · iexact Hr
    iexact Hos

/-- The copies of the keys and values'. -/
theorem kvs_in : iprop(bigSep Finset.univ (kvK m K c) ∗ anyB c cc0_scratch4) ⊢ bigSepL [0, 1, 2, 3] (kvIO m K c) := by
  rw [← bigSep_univ_eq_bigSepL [(0 : Fin 4), 1, 2, 3] (by decide) (by decide)]
  iintro ⟨Hk, ⟨%f, Hf⟩⟩
  ihave Hf := (Entails.of_eq (kv_split c f)) $$ Hf
  ihave H := (Entails.of_eq (bigSep_sep' Finset.univ (kvK m K c) (fun i : Fin 4 => vPts (F := F) c (kvSl i) fullShare f)).symm) $$ [Hk Hf]
  · isplitl [Hk]; · iexact Hk
    iexact Hf
  have hm : (bigSep Finset.univ fun i => iprop(kvK m K c i ∗ vPts (F := F) c (kvSl i) fullShare f)) ⊢ bigSep Finset.univ (kvIO m K c) := bigSep_mono fun i _ => ?_
  · iapply hm; iexact H
  show iprop(kvK m K c i ∗ vPts (F := F) c (kvSl i) fullShare f) ⊢ kvIO m K c i
  unfold kvK kvIO kvIn known
  iintro ⟨⟨⟨#HI, #HR⟩, Ha, Ht, Hs⟩, Hd⟩
  isplitr [Ha]
  · isplitr; · iexact HI
    isplitl [Hs]; · iexact Hs
    isplitl [Hd]; · iexists f; iexact Hd
    isplitl [Ht]; · iexact Ht
    iexact HR
  isplitr; · iexact HI
  iexact Ha

/-- What the barrier's wait brings, sorted: the landing slots, the output rows, and the peers' cells reached. -/
def got1 (j : Fin 31) : sProp 𝕄 := iprop((∃ f, vPts (F := F) (nx c j) (rsSl j) fullShare f) ∗ reached ER (chCell 1 (nx c j) j) 0)
def got3 (j : Fin 31) : sProp 𝕄 := iprop((∃ f, vPts (F := F) (nx c j) (rowSl outM (row c)) fullShare f) ∗ reached ER (chCell 3 (nx c j) j) 0)
theorem got_split : (bigSep Finset.univ fun d => barPay (F := F) c d) ⊢ iprop(bigSep Finset.univ (got1 (F := F) c) ∗ bigSep Finset.univ (got3 (F := F) c)) := by
  rw [← bigSep_sep']
  refine bigSep_mono fun j _ => ?_
  show barPay (F := F) c j ⊢ iprop(got1 (F := F) c j ∗ got3 (F := F) c j)
  unfold barPay got1 got3
  iintro ⟨Hr, Ho, #R1, #R3⟩
  isplitl [Hr]
  · isplitl [Hr]; · iexact Hr
    iexact R1
  isplitl [Ho]; · iexact Ho
  iexact R3

/-- The first exchange's copies'. -/
theorem sends1_in : iprop(allK m K c ∗ tokOwn c 0 ∗ tokNx c 1 ∗ bigSep Finset.univ (got1 (F := F) c)
      ∗ bigSep Finset.univ fun j : Fin 31 => vPts (F := F) c (rowSl parM (row (nx c j))) fullShare (PAR m c))
    ⊢ bigSepL steps (sendIn m K c (fun j => rowSl parM (row (nx c j))) rsSl 0 1 (fun _ => fullShare) (fun _ => PAR m c)) := by
  rw [← bigSep_sep', ← bigSep_sep', ← bigSep_sep']
  refine with_allK m K c fun j => ?_
  unfold sendIn got1
  iintro ⟨#HK, Ht, Ht', ⟨Hd, Hr'⟩, Hs⟩
  ihave H := (allK_at m K c j) $$ HK
  unfold stepK known
  icases H with ⟨-, ⟨#I0, #R0⟩, -, -, -, #I1, -⟩
  isplitr; · iexact I0
  isplitr; · iexact I1
  isplitl [Hs]; · iexact Hs
  isplitl [Hd]; · iexact Hd
  isplitl [Ht]; · iexact Ht
  isplitr; · iexact R0
  isplitl [Ht']; · iexact Ht'
  iexact Hr'

/-- The second exchange's copies'. -/
theorem sends2_in : iprop(allK m K c ∗ tokOwn c 2 ∗ tokNx c 3 ∗ bigSep Finset.univ (got3 (F := F) c)
      ∗ bigSep Finset.univ fun j : Fin 31 => vPts (F := F) c redM (shr j) (RED m c))
    ⊢ bigSepL steps (sendIn m K c (fun _ => redM) (fun _ => rowSl outM (row c)) 2 3 shr (fun _ => RED m c)) := by
  rw [← bigSep_sep', ← bigSep_sep', ← bigSep_sep']
  refine with_allK m K c fun j => ?_
  unfold sendIn got3
  iintro ⟨#HK, Ht, Ht', ⟨Hd, Hr'⟩, Hs⟩
  ihave H := (allK_at m K c j) $$ HK
  unfold stepK known
  icases H with ⟨-, -, -, ⟨#I2, #R2⟩, -, -, #I3⟩
  isplitr; · iexact I2
  isplitr; · iexact I3
  isplitl [Hs]; · iexact Hs
  isplitl [Hd]; · iexact Hd
  isplitl [Ht]; · iexact Ht
  isplitr; · iexact R2
  isplitl [Ht']; · iexact Ht'
  iexact Hr'

/-- An exchange's waits'. -/
theorem waits_in (a a' : Fin 4) (h : ∀ j, allK m K c ⊢ iprop(cellInv ER (Rd m) (K (chCell a c j)) (chCell a c j) ∗ cellInv ER (Rd m) (K (chCell a' c j)) (chCell a' c j))) :
    iprop(allK m K c ∗ credAll c a ∗ credAll c a' ∗ atAll c a 0 ∗ atAll c a' 0) ⊢ bigSepL steps (waitIn m K c a a') := by
  rw [← bigSep_sep', ← bigSep_sep', ← bigSep_sep']
  refine with_allK m K c fun j => ?_
  unfold waitIn
  iintro ⟨#HK, Hc, Hc', Ha, Ha'⟩
  ihave H := (h j) $$ HK
  icases H with ⟨#I, #I'⟩
  isplitr; · iexact I
  isplitr; · iexact I'
  isplitl [Hc]; · iexact Hc
  isplitl [Hc']; · iexact Hc'
  isplitl [Ha]; · iexact Ha
  iexact Ha'

/-- What an exchange's waits give, sorted. -/
theorem waits_out (a a' : Fin 4) : bigSepL steps (waitOut m c a a')
    ⊢ iprop((bigSep Finset.univ fun j => chPay m c a j) ∗ (bigSep Finset.univ fun j => chPay m c a' j) ∗ atAll c a 1 ∗ atAll c a' 1) := by
  rw [← by_steps]
  unfold waitOut
  rw [bigSep_sep', bigSep_sep', bigSep_sep']

end Body

end Cert.KernelIdeal.Run

end
-- ==== Proof.BodyRun.lean ====
/-
  The body's run on a device, from what it holds to the whole output.
-/
module

public import proofs.«01_k».proof.Proof.Holdings

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

section Run
variable (K : GSem nD τ sig → ℕ) (c : Dev nD)

/-- The second exchange and the own rows. -/
def tail2 (v : FVec F S8x512 .f32) : KProg F :=
  each (gSend c (fun _ => redM) (fun _ => rowSl outM (row c)) 2 3 (fun _ => rfl) (fun _ => (Memref.isWhole_whole _).wordExact) (fun _ => View.wordExact_bits rfl)
    (fun _ => ⟨⟨rfl, Or.inl rfl⟩, trivial⟩)) steps <|
  putOwn (row c) v <|
  each2 (gWait (fun _ => rowSl outM (row c)) (fun _ => redM) 2 (fun _ => View.wordExact_bits rfl) (fun _ => (Memref.isWhole_whole _).wordExact))
    (gWait (fun _ => redM) (fun _ => rowSl outM (row c)) 3 (fun _ => (Memref.isWhole_whole _).wordExact) (fun _ => View.wordExact_bits rfl)) steps <| .ret ⟨⟩
/-- From the barrier's wait on. -/
def tail1 : KProg F :=
  .op (.semWait barS ((31 : ℕ) : ℤ)) fun _ =>
  each (gSend c (fun j => rowSl parM (row (nx c j))) rsSl 0 1 (fun _ => rfl) (fun _ => View.wordExact_bits rfl) (fun _ => (View.wordExact_bits rfl).reshape _ _)
    (fun _ => ⟨⟨rfl, Or.inl rfl⟩, trivial⟩)) steps <|
  each2 (gWait rsSl (fun j => rowSl parM (row (nx c j))) 0 (fun _ => (View.wordExact_bits rfl).reshape _ _) (fun _ => View.wordExact_bits rfl))
    (gWait (fun j => rowSl parM (row (nx c j))) rsSl 1 (fun _ => View.wordExact_bits rfl) (fun _ => (View.wordExact_bits rfl).reshape _ _)) steps <|
  reduce (row c) (tail2 c)

theorem phasesAt_eq : (phasesAt c : KProg F) = each (eSig (nx c)) steps (middle (kvOff c 0) (kvOff c 1) (tail1 c)) := rfl

/-- The second exchange and the own rows: the output whole. -/
theorem run_tail2 (fo : Vec F S256x512 .f32) (Q : PUnit → sProp 𝕄) :
    iprop(levAts L lv ∗ (∃ W, owes (c : Thread nD τ) (Oc c) W) ∗ allK m K c
        ∗ (tokOwn c 2 ∗ tokNx c 3 ∗ credAll c 3 ∗ atAll c 2 0 ∗ atAll c 3 0) ∗ bigSep Finset.univ (got3 (F := F) c)
        ∗ pt c cc0_scratch3 (RED m c) ∗ vPts (F := F) c (rowSl outM (row c)) fullShare fo
        ∗ (((∃ W, owes (c : Thread nD τ) 0 W) ∗ (atAll c 2 1 ∗ atAll c 3 1) ∗ pt c cc0_scratch3 (RED m c) ∗ pt c cc0_stg3_0 (OUT m)) -∗ wpc c (.ret ⟨⟩) Q))
      ⊢ wpc c (tail2 c (RED m c)) Q := by
  unfold tail2
  iintro ⟨#Hlev, ⟨%W, HO⟩, #HK, ⟨Ht, Ht', Hc', Ha, Ha'⟩, Hg, Hred, Hown, Hk⟩
  ihave Hred := (Entails.of_eq (red_split c (RED m c))) $$ Hred
  iapply (run_sends m K c (fun _ => redM) (fun _ => rowSl outM (row c)) 2 3 _ _ _ _ shr (fun _ => RED m c) (fun _ => rfl) (fun j => .rfl) (send2_pay m c) 0 W)
  isplitl [Ht Ht' Hg Hred]
  · iapply (sends2_in m K c)
    isplitr; · iexact HK
    isplitl [Ht]; · iexact Ht
    isplitl [Ht']; · iexact Ht'
    isplitl [Hg]; · iexact Hg
    iexact Hred
  isplitl [HO]; · iexact HO
  iintro ⟨Hc, HO⟩
  ihave Hc := (Entails.of_eq (by_steps _).symm) $$ Hc
  unfold putOwn
  iapply (run_ld c outM _ _ (S := (rowSl outM (row c)).view.set) (by rw [View.set_slice]; exact Finset.Subset.refl _) fullShare fo _ rfl); isplitl [Hown]; · iexact Hown
  iintro Hown
  iapply (run_st c outM (rowRc (row c)) _ _ (S := (rowSl outM (row c)).view.set) (Finset.Subset.refl _) fo (OUT m) _ (fun i hi => by
    obtain ⟨x, -, rfl⟩ := Finset.mem_map.mp hi
    exact (View.write_emb_of_mem _ _ (Finset.mem_univ _)).trans (out_at_emb m c x).symm)); isplitl [Hown]; · iexact Hown
  iintro Hown
  iapply (run_waits m K c (fun _ => rowSl outM (row c)) (fun _ => redM) (fun _ => redM) (fun _ => rowSl outM (row c)) 2 3 _ _ _ _ (fun _ => rfl) (fun _ => rfl) 0
    (fun j => mayWait c _ 3 0 (by rw [lv_ch]; decide) (above_zero 3)) (fun j => mayWait c _ 3 0 (by rw [lv_ch]; decide) (above_zero 3)))
  isplitr; · iexact Hlev
  isplitl [Hc Hc' Ha Ha']
  · iapply (waits_in m K c 2 3 fun j => by
      iintro #HK
      ihave H := (allK_at m K c j) $$ HK
      unfold stepK known
      icases H with ⟨-, -, -, ⟨#I2, -⟩, ⟨#I3, -⟩, -⟩
      isplitr; · iexact I2
      iexact I3)
    isplitr; · iexact HK
    isplitl [Hc]; · iexact Hc
    isplitl [Hc']; · iexact Hc'
    isplitl [Ha]; · iexact Ha
    iexact Ha'
  isplitl [HO]; · iexists W; iexact HO
  iintro ⟨Hout, HO⟩
  ihave Hout := (waits_out m c 2 3) $$ Hout
  icases Hout with ⟨Hred, Hrows, Ha, Ha'⟩
  iapply Hk
  isplitl [HO]; · iexact HO
  isplitl [Ha Ha']
  · isplitl [Ha]; · iexact Ha
    iexact Ha'
  isplitl [Hred]
  · rw [red_split]; iexact Hred
  rw [out_split']
  isplitl [Hown]; · iexact Hown
  iexact Hrows

/-- The first exchange and the reduction. -/
theorem run_tail1 (fo : Vec F S256x512 .f32) (Q : PUnit → sProp 𝕄) :
    iprop(levAts L lv ∗ (∃ W, owes (c : Thread nD τ) (Ob c) W) ∗ allK m K c
        ∗ (cellInv ER (Rd m) (K (barCell c)) (barCell c) ∗ cred (tallyAt (barCell c) () 31) ∗ atPos ER (barCell c) 0 ∅ 0)
        ∗ (tokOwn c 0 ∗ tokNx c 1 ∗ credAll c 1 ∗ atAll c 0 0 ∗ atAll c 1 0)
        ∗ (tokOwn c 2 ∗ tokNx c 3 ∗ credAll c 3 ∗ atAll c 2 0 ∗ atAll c 3 0)
        ∗ pt c cc0_scratch1 (PAR m c) ∗ anyB (F := F) c cc0_scratch3 ∗ vPts (F := F) c (rowSl outM (row c)) fullShare fo
        ∗ (((∃ W, owes (c : Thread nD τ) 0 W) ∗ atPos ER (barCell c) 1 ∅ 0 ∗ (atAll c 0 1 ∗ atAll c 1 1) ∗ (atAll c 2 1 ∗ atAll c 3 1)
            ∗ pt c cc0_scratch1 (PAR m c) ∗ pt c cc0_scratch2 (RS m c) ∗ pt c cc0_scratch3 (RED m c) ∗ pt c cc0_stg3_0 (OUT m)) -∗ wpc c (.ret ⟨⟩) Q))
      ⊢ wpc c (tail1 c) Q := by
  unfold tail1
  iintro ⟨#Hlev, ⟨%W, HO⟩, #HK, ⟨#HIb, Hcb, Hab⟩, ⟨Ht, Ht', Hc', Ha, Ha'⟩, H2, Hpar, ⟨%fr, Hred⟩, Hown, Hk⟩
  iapply (Rounds.wp_wait_rest_token 𝒱₀ ER (Rd m) (c : Thread nD τ) none (κ := K (barCell c))
      (wpE_semWait_eq 𝒱₀ (c : Thread nD τ) none Set.univ) (Set.mem_univ _) () (O := Ob c) (W := W) (R := 0) (m := 0) (T := ∅)
      ((Nat.zero_add _).trans (expect_bar m c).symm)) $$ [Hcb HO Hab]
  · isplitr; · iexact HIb
    isplitl [Hcb]; · iexact Hcb
    isplitl [HO]; · iexact HO
    isplitr
    · iapply (mayWait c (.reg barS) 1 (Ob c) (by rw [lv_bar]) (above_Ob c)); iexact Hlev
    iexact Hab
  iintro ⟨HO, Hab, -, Hp⟩
  ihave Hp := (Entails.of_eq (rest_bar m c)) $$ Hp
  ihave Hp := (got_split c) $$ Hp
  icases Hp with ⟨Hg1, Hg3⟩
  ihave Hpar := (Entails.of_eq (par_split c (PAR m c))) $$ Hpar
  icases Hpar with ⟨Hparo, Hpars⟩
  iapply (run_sends m K c (fun j => rowSl parM (row (nx c j))) rsSl 0 1 _ _ _ _ (fun _ => fullShare) (fun _ => PAR m c) (fun _ => rfl) (fun j => .rfl) (send1_pay m c) (Oc c))
  isplitl [Ht Ht' Hg1 Hpars]
  · iapply (sends1_in m K c)
    isplitr; · iexact HK
    isplitl [Ht]; · iexact Ht
    isplitl [Ht']; · iexact Ht'
    isplitl [Hg1]; · iexact Hg1
    iexact Hpars
  isplitl [HO]; · iexact HO
  iintro ⟨Hc, HO⟩
  ihave Hc := (Entails.of_eq (by_steps _).symm) $$ Hc
  iapply (run_waits m K c rsSl (fun j => rowSl parM (row (nx c j))) (fun j => rowSl parM (row (nx c j))) rsSl 0 1 _ _ _ _ (fun _ => rfl) (fun _ => rfl) (Oc c)
    (fun j => mayWait c _ 2 (Oc c) (by rw [lv_ch]; decide) (above_Oc c)) (fun j => mayWait c _ 2 (Oc c) (by rw [lv_ch]; decide) (above_Oc c)))
  isplitr; · iexact Hlev
  isplitl [Hc Hc' Ha Ha']
  · iapply (waits_in m K c 0 1 fun j => by
      iintro #HK
      ihave H := (allK_at m K c j) $$ HK
      unfold stepK known
      icases H with ⟨-, ⟨#I0, -⟩, ⟨#I1, -⟩, -⟩
      isplitr; · iexact I0
      iexact I1)
    isplitr; · iexact HK
    isplitl [Hc]; · iexact Hc
    isplitl [Hc']; · iexact Hc'
    isplitl [Ha]; · iexact Ha
    iexact Ha'
  isplitl [HO]; · iexists _; iexact HO
  iintro ⟨Hout, HO⟩
  ihave Hout := (waits_out m c 0 1) $$ Hout
  icases Hout with ⟨Hpars, Hrs, Ha, Ha'⟩
  ihave Hrs := (Entails.of_eq (rs_split c (RS m c)).symm) $$ [Hrs]
  · iexact Hrs
  unfold reduce
  iapply (run_ld c parM _ _ (S := (rowSl parM (row c)).view.set) (by rw [View.set_slice]; exact Finset.Subset.refl _) fullShare (PAR m c) _ (own_read m c)); isplitl [Hparo]; · iexact Hparo
  iintro Hparo
  iapply (run_ld c rsM _ _ (Finset.subset_univ _) fullShare (RS m c) _ (Memref.readAt_unit_zero (Elt F) cc0_scratch2 hz3 _ _)); isplitl [Hrs]; · iexact Hrs
  iintro Hrs
  iapply (run_ld c redM _ _ (Finset.subset_univ _) fullShare fr _ rfl); isplitl [Hred]; · iexact Hred
  iintro Hred
  rw [pay31_eq]
  iapply (run_st c redM _ _ _ (Finset.subset_univ _) fr (RED m c) _ (fun i _ => congrFun (Memref.write_access_unit_zero_univ (Elt F) cc0_scratch3 hz2 _ fr (RED m c)) i)); isplitl [Hred]; · iexact Hred
  iintro Hred
  iapply (run_tail2 m K c fo)
  isplitr; · iexact Hlev
  isplitl [HO]; · iexact HO
  isplitr; · iexact HK
  isplitl [H2]; · iexact H2
  isplitl [Hg3]; · iexact Hg3
  isplitl [Hred]; · iexact Hred
  isplitl [Hown]; · iexact Hown
  iintro ⟨HO, Ha2, Hred, Hout⟩
  iapply Hk
  isplitl [HO]; · iexact HO
  isplitl [Hab]; · iexact Hab
  isplitl [Ha Ha']
  · isplitl [Ha]; · iexact Ha
    iexact Ha'
  isplitl [Ha2]; · iexact Ha2
  isplitl [Hparo Hpars]
  · rw [par_split]
    isplitl [Hparo]; · iexact Hparo
    iexact Hpars
  isplitl [Hrs]; · iexact Hrs
  isplitl [Hred]; · iexact Hred
  iexact Hout

/-- The body's effects on a device. -/
theorem run_body (Q : PUnit → sProp 𝕄) : iprop(bodyIn m K c ∗ (bodyOut m c -∗ wpc c (.ret ⟨⟩) Q)) ⊢ wpc c (phasesAt c) Q := by
  rw [phasesAt_eq]
  unfold bodyIn
  iintro ⟨⟨#Hlev, ⟨%W, HO⟩, #HK, Hb, Htb, H1, H2, Hkv, ⟨Hx, Hwq, Hwo, ⟨%fo, Hout⟩⟩, Hctx, Hpar, ⟨%frs, Hrs⟩, Hred, Hkvb⟩, Hk⟩
  ihave Hs := (sigs_in m K c frs fo) $$ [Htb Hrs Hout]
  · isplitr; · iexact HK
    isplitl [Htb]; · iexact Htb
    isplitl [Hrs]; · iexact Hrs
    iexact Hout
  icases Hs with ⟨Hown, Hs⟩
  iapply (run_sigs m K c (Ob c) W)
  isplitl [Hs]; · iexact Hs
  isplitl [HO]; · iexact HO
  iintro HO
  iapply (run_middle m K c)
  isplitr; · iexact Hlev
  isplitl [HO]; · iexists W; iexact HO
  isplitl [Hkv Hkvb]
  · iapply (kvs_in m K c)
    isplitl [Hkv]; · iexact Hkv
    iexact Hkvb
  isplitl [Hx]; · iexact Hx
  isplitl [Hwq]; · iexact Hwq
  isplitl [Hwo]; · iexact Hwo
  isplitl [Hctx]; · iexact Hctx
  isplitl [Hpar]; · iexact Hpar
  iintro ⟨HO, Hkl, Hx, Hwq, Hwo, Hctx, Hpar, Hkvb⟩
  iapply (run_tail1 m K c fo)
  isplitr; · iexact Hlev
  isplitl [HO]; · iexact HO
  isplitr; · iexact HK
  isplitl [Hb]; · iexact Hb
  isplitl [H1]; · iexact H1
  isplitl [H2]; · iexact H2
  isplitl [Hpar]; · iexact Hpar
  isplitl [Hred]; · iexact Hred
  isplitl [Hown]; · iexact Hown
  iintro ⟨HO, Hab, Ha1, Ha2, Hpar, Hrs, Hred, Hout⟩
  iapply Hk
  unfold bodyOut
  isplitl [HO]; · iexact HO
  isplitl [Hab]; · iexact Hab
  isplitl [Ha1]; · iexact Ha1
  isplitl [Ha2]; · iexact Ha2
  isplitl [Hkl]
  · rw [bigSep_univ_eq_bigSepL [(0 : Fin 4), 1, 2, 3] (by decide) (by decide)]; iexact Hkl
  isplitl [Hx Hwq Hwo Hout]
  · isplitl [Hx]; · iexact Hx
    isplitl [Hwq]; · iexact Hwq
    isplitl [Hwo]; · iexact Hwo
    iexact Hout
  isplitl [Hctx]; · iexact Hctx
  isplitl [Hpar]; · iexists _; iexact Hpar
  isplitl [Hrs]; · iexists _; iexact Hrs
  isplitl [Hred]; · iexists _; iexact Hred
  iexists _; iexact Hkvb

end Run

end Cert.KernelIdeal.Run

end
-- ==== Proof.Region.lean ====
/-
  The body as the pipeline calls it: what enters and leaves around the run of the body, and the region it makes.
-/
module

public import proofs.«01_k».proof.Proof.BodyRun

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

/-- The copies' semaphores: by exchange end and step, then those of the keys and values. -/
abbrev KI : Type := (Fin 4 × Fin 31) ⊕ Fin 4
abbrev osem : KI → SemLoc sig
  | .inl aj => .dma (ch aj.1 aj.2)
  | .inr i => .dma (kvS i)
abbrev ownCell (c : Dev nD) (k : KI) : GSem nD τ sig := ((c : Thread nD τ), osem k)

/-- The purposes tell them apart. -/
theorem osem_inj : Function.Injective osem := by
  rintro (⟨a, j⟩ | i) (⟨b, k⟩ | i') h
  · have h' := (role_ch a j).symm.trans ((congrArg role h).trans (role_ch b k))
    cases h'; rfl
  · exact absurd ((role_ch a j).symm.trans ((congrArg role h).trans (role_kv i'))) (by simp)
  · exact absurd ((role_kv i).symm.trans ((congrArg role h).trans (role_ch b k))) (by simp)
  · have h' := (role_kv i).symm.trans ((congrArg role h).trans (role_kv i'))
    cases h'; rfl

/-- A staging semaphore serves no exchange. -/
theorem role_stage (w : Fin 4) (s : Fin (spec0 w).nbuf) : role (.dma ((spec0 w).sem s)) = .other := by
  fin_cases w <;> fin_cases s <;> rfl
theorem role_osem (k : KI) : role (osem k) ≠ .other := by
  rcases k with ⟨a, j⟩ | i
  · exact fun h => absurd ((role_ch a j).symm.trans h) (by simp)
  · exact fun h => absurd ((role_kv i).symm.trans h) (by simp)
theorem osem_ne_bar (k : KI) : osem k ≠ .reg barS := by
  rcases k with ⟨a, j⟩ | i <;> exact fun h => by cases h

theorem own_facts : Pipeline.OwnSemFacts spec0 osem where
  isScoped k := by
    rcases k with ⟨a, j⟩ | i
    · revert a j; decide
    · revert i; decide
  inj := osem_inj
  disj k w s h := role_osem k ((congrArg role h).trans (role_stage w s))

section Ghost
variable (K : GSem nD τ sig → ℕ) (c : Dev nD)

/-! ## What the launch deals a device, and the cells opened and closed -/

/-- The cells the device touches, their invariants known; the peers' barriers reached. -/
def invK : sProp 𝕄 :=
  iprop((bigSep Finset.univ fun k : KI => cellInv ER (Rd m) (K (ownCell c k)) (ownCell c k))
    ∗ (bigSep Finset.univ fun j : Fin 31 => iprop(known m K (barCell (nx c j))
        ∗ cellInv ER (Rd m) (K (chCell 1 (nx c j) j)) (chCell 1 (nx c j) j) ∗ cellInv ER (Rd m) (K (chCell 3 (nx c j) j)) (chCell 3 (nx c j) j)))
    ∗ cellInv ER (Rd m) (K (barCell c)) (barCell c))
instance invK_persistent : Persistent (invK m K c) := by unfold invK; infer_instance

abbrev rchK : sProp 𝕄 := bigSep Finset.univ fun k : KI => reached ER (ownCell c k) 0
abbrev posK (R : ℕ) : sProp 𝕄 := bigSep Finset.univ fun k : KI => atPos ER (ownCell c k) R ∅ 0
abbrev opensK : sProp 𝕄 := bigSep Finset.univ fun k : KI => openTok ER (ownCell c k)
abbrev tokKv : sProp 𝕄 := bigSep Finset.univ fun i : Fin 4 => dutyTok ER (kvCell c i) 0 0
def toks : sProp 𝕄 := iprop(tokBar (F := F) c ∗ (tokOwn (F := F) c 0 ∗ tokNx (F := F) c 1) ∗ (tokOwn (F := F) c 2 ∗ tokNx (F := F) c 3) ∗ tokKv (F := F) c)
def crds : sProp 𝕄 := iprop(cred (tallyAt (barCell c) () 31) ∗ credAll (F := F) c 1 ∗ credAll (F := F) c 3)

/-- What the device brings to the region, and it with the cells opened; the barrier at rest afterwards. -/
def Tk : sProp 𝕄 := iprop((∃ K, invK m K c ∗ atPos ER (barCell c) 0 ∅ 0 ∗ opensK (F := F) c) ∗ toks (F := F) c ∗ crds (F := F) c)
def Xk : sProp 𝕄 :=
  iprop((∃ K, invK m K c ∗ atPos ER (barCell c) 0 ∅ 0 ∗ rchK (F := F) c ∗ posK (F := F) c 0) ∗ toks (F := F) c ∗ crds (F := F) c ∗ levAts L lv)
def Yk : sProp 𝕄 := semVal (barCell c) 0

theorem own_sems : (Pipeline.ownSems0 osem c : sProp 𝕄) = bigSep Finset.univ fun k : KI => semVal (ownCell c k) 0 := rfl

theorem open_cells : iprop(invK m K c ∗ opensK (F := F) c ∗ Pipeline.ownSems0 osem c) ⊢ |={Set.univ}=> iprop(posK (F := F) c 0 ∗ rchK (F := F) c) := by
  rw [own_sems]
  iintro ⟨#HI, Ho, Hv⟩
  unfold invK
  icases HI with ⟨#HI, -⟩
  ihave H := (Entails.of_eq (bigSep_sep' Finset.univ (fun k : KI => openTok ER (ownCell c k)) (fun k : KI => (semVal (ownCell c k) 0 : sProp 𝕄))).symm) $$ [Ho Hv]
  · isplitl [Ho]; · iexact Ho
    iexact Hv
  ihave H := (Entails.of_eq (bigSep_sep' Finset.univ (fun k : KI => cellInv ER (Rd m) (K (ownCell c k)) (ownCell c k)) (fun k : KI => iprop(openTok ER (ownCell c k) ∗ semVal (ownCell c k) 0))).symm) $$ [H]
  · isplitr; · iexact HI
    iexact H
  have hm : (bigSep Finset.univ fun k : KI => iprop(cellInv ER (Rd m) (K (ownCell c k)) (ownCell c k) ∗ openTok ER (ownCell c k) ∗ semVal (ownCell c k) 0))
      ⊢ |={Set.univ}=> bigSep Finset.univ fun k : KI => iprop(atPos ER (ownCell c k) 0 ∅ 0 ∗ reached ER (ownCell c k) 0) :=
    (bigSep_mono fun k _ => Rounds.cell_open ER (Rd m) (Set.mem_univ (K (ownCell c k)))).trans (bigSep_fupd _ _)
  imod hm $$ H with H
  imodintro
  rw [← bigSep_sep']
  iexact H

theorem close_cells : iprop(invK m K c ∗ atPos ER (barCell c) 1 ∅ 0 ∗ posK (F := F) c 1)
    ⊢ |={Set.univ}=> iprop(semVal (barCell c) 0 ∗ Pipeline.ownSems0 osem c) := by
  rw [own_sems]
  unfold invK
  iintro ⟨⟨#HI, -, #Hb⟩, Hab, Hp⟩
  imod (Rounds.cell_close ER (Rd m) (Set.mem_univ (K (barCell c))) (fun h => h) (R := 0 + 1) (duties_later m (barCell c))) $$ [Hab] with Hb0
  · isplitr; · iexact Hb
    iexact Hab
  ihave H := (Entails.of_eq (bigSep_sep' Finset.univ (fun k : KI => cellInv ER (Rd m) (K (ownCell c k)) (ownCell c k)) (fun k : KI => atPos ER (ownCell c k) 1 ∅ 0)).symm) $$ [Hp]
  · isplitr; · iexact HI
    iexact Hp
  have hm : (bigSep Finset.univ fun k : KI => iprop(cellInv ER (Rd m) (K (ownCell c k)) (ownCell c k) ∗ atPos ER (ownCell c k) 1 ∅ 0))
      ⊢ |={Set.univ}=> bigSep Finset.univ fun k : KI => (semVal (ownCell c k) 0 : sProp 𝕄) :=
    (bigSep_mono fun k _ => Rounds.cell_close ER (Rd m) (Set.mem_univ (K (ownCell c k))) (fun h => h) (R := 0 + 1) (duties_later m (ownCell c k))).trans (bigSep_fupd _ _)
  imod hm $$ H with H
  imodintro
  isplitl [Hb0]; · iexact Hb0
  iexact H

/-- The positions, exchange end by exchange end, then the keys' and values'. -/
theorem posK_split (R : ℕ) : posK (F := F) c R
    = iprop((atAll (F := F) c 0 R ∗ atAll (F := F) c 1 R ∗ atAll (F := F) c 2 R ∗ atAll (F := F) c 3 R) ∗ bigSep Finset.univ fun i : Fin 4 => atPos ER (kvCell c i) R ∅ 0) := by
  unfold posK
  rw [bigSep_univ_sum, bigSep_univ_prod, bigSep_W0]
  rfl

theorem rch_at (k : KI) : rchK (F := F) c ⊢ reached ER (ownCell c k) 0 := bigSep_elim (Finset.mem_univ k)
theorem inv_at (k : KI) : (bigSep Finset.univ fun k : KI => cellInv ER (Rd m) (K (ownCell c k)) (ownCell c k)) ⊢ cellInv ER (Rd m) (K (ownCell c k)) (ownCell c k) :=
  bigSep_elim (Finset.mem_univ k)

theorem known_own (k : KI) : iprop(invK m K c ∗ rchK (F := F) c) ⊢ known m K (ownCell c k) := by
  unfold invK known
  iintro ⟨⟨#HI, -⟩, #HR⟩
  isplitr; · iapply (inv_at m K c k); iexact HI
  iapply (rch_at c k); iexact HR

theorem nx_at (j : Fin 31) : (bigSep Finset.univ fun j : Fin 31 => iprop(known m K (barCell (nx c j))
        ∗ cellInv ER (Rd m) (K (chCell 1 (nx c j) j)) (chCell 1 (nx c j) j) ∗ cellInv ER (Rd m) (K (chCell 3 (nx c j) j)) (chCell 3 (nx c j) j)))
    ⊢ iprop(known m K (barCell (nx c j)) ∗ cellInv ER (Rd m) (K (chCell 1 (nx c j) j)) (chCell 1 (nx c j) j) ∗ cellInv ER (Rd m) (K (chCell 3 (nx c j) j)) (chCell 3 (nx c j) j)) :=
  bigSep_elim (Finset.mem_univ j)

theorem allK_intro : iprop(invK m K c ∗ rchK (F := F) c) ⊢ allK m K c := by
  refine bigSep_intro_persistent fun j _ => ?_
  show _ ⊢ stepK m K c j
  iintro ⟨#HI, #HR⟩
  ihave #H0 := (known_own m K c (.inl (0, j))) $$ [HI HR]
  · isplitr <;> iassumption
  ihave #H1 := (known_own m K c (.inl (1, j))) $$ [HI HR]
  · isplitr <;> iassumption
  ihave #H2 := (known_own m K c (.inl (2, j))) $$ [HI HR]
  · isplitr <;> iassumption
  ihave #H3 := (known_own m K c (.inl (3, j))) $$ [HI HR]
  · isplitr <;> iassumption
  unfold invK
  icases HI with ⟨-, #HN, -⟩
  ihave #HN := (nx_at m K c j) $$ HN
  icases HN with ⟨#Hb, #Hc1, #Hc3⟩
  unfold stepK
  isplitr; · iexact Hb
  isplitr; · iexact H0
  isplitr; · iexact H1
  isplitr; · iexact H2
  isplitr; · iexact H3
  isplitr; · iexact Hc1
  iexact Hc3

/-! ## The keys and values lent to the copies -/

/-- Part of a buffer taken at a share, to be given back. -/
theorem lend {ℓ : Loc nD τ sig} (S : Finset (Idx ℓ)) (q : PosShare TreeShare) (f : Buf (Elt F) ℓ) :
    (ℓ ↦{q} f : sProp 𝕄) ⊢ iprop((ℓ ↦[S]{q} f) ∗ ((ℓ ↦[S]{q} f) -∗ ℓ ↦{q} f)) := by
  have h := pointsTo_split_subset (Val := Elt F) (Ix := Unit) (Name := ℕ) (U := UU) (Lvl := ℕ) (ℓ := ℓ) (q := q) (f := f) (Finset.subset_univ S)
  iintro H
  ihave H := h.1 $$ H
  icases H with ⟨H1, H2⟩
  isplitl [H1]; · iexact H1
  iintro H1
  iapply h.2
  isplitl [H1] <;> iassumption

/-- The keys and the values, each whole, are what the four copies read and a way back. -/
theorem kv_lend : iprop(pt c main_v1 (kT m c) ∗ pt c main_v2 (vT m c))
    ⊢ iprop((bigSep Finset.univ fun i : Fin 4 => vPts (F := F) c (kvSrcAt c i) (kvQ i) (kvF m c i))
      ∗ ((bigSep Finset.univ fun i : Fin 4 => vPts (F := F) c (kvSrcAt c i) (kvQ i) (kvF m c i)) -∗ iprop(pt c main_v1 (kT m c) ∗ pt c main_v2 (vT m c)))) := by
  rw [bigSep_W0]
  have hk := pointsTo_share (Val := Elt F) (Ix := Unit) (Name := ℕ) (U := UU) (Lvl := ℕ) (ℓ := (c : Thread nD τ).loc main_v1) (I := Finset.univ) (f := kT m c)
    (PosShare.mem_left_op_right fullShare)
  have hv := pointsTo_share (Val := Elt F) (Ix := Unit) (Name := ℕ) (U := UU) (Lvl := ℕ) (ℓ := (c : Thread nD τ).loc main_v2) (I := Finset.univ) (f := vT m c)
    (PosShare.mem_left_op_right fullShare)
  iintro ⟨Hk, Hv⟩
  ihave Hk := hk.1 $$ Hk
  ihave Hv := hv.1 $$ Hv
  icases Hk with ⟨Hk0, Hk1⟩
  icases Hv with ⟨Hv0, Hv1⟩
  ihave Hk0 := (lend (kvSrcAt c 0).view.set fullShare.left (kT m c)) $$ Hk0
  ihave Hk1 := (lend (kvSrcAt c 1).view.set fullShare.right (kT m c)) $$ Hk1
  ihave Hv0 := (lend (kvSrcAt c 2).view.set fullShare.left (vT m c)) $$ Hv0
  ihave Hv1 := (lend (kvSrcAt c 3).view.set fullShare.right (vT m c)) $$ Hv1
  icases Hk0 with ⟨Hk0, Bk0⟩
  icases Hk1 with ⟨Hk1, Bk1⟩
  icases Hv0 with ⟨Hv0, Bv0⟩
  icases Hv1 with ⟨Hv1, Bv1⟩
  isplitl [Hk0 Hk1 Hv0 Hv1]
  · isplitl [Hk0]; · iexact Hk0
    isplitl [Hk1]; · iexact Hk1
    isplitl [Hv0]; · iexact Hv0
    iexact Hv1
  iintro ⟨Hk0, Hk1, Hv0, Hv1⟩
  ihave Hk0 := (show vPts (F := F) c (kvSrcAt c 0) (kvQ 0) (kvF m c 0) ⊢ (((c : Thread nD τ).loc main_v1) ↦[(kvSrcAt c 0).view.set]{fullShare.left} kT m c) from .rfl) $$ Hk0
  ihave Hk0 := Bk0 $$ Hk0
  ihave Hk1 := (show vPts (F := F) c (kvSrcAt c 1) (kvQ 1) (kvF m c 1) ⊢ (((c : Thread nD τ).loc main_v1) ↦[(kvSrcAt c 1).view.set]{fullShare.right} kT m c) from .rfl) $$ Hk1
  ihave Hk1 := Bk1 $$ Hk1
  ihave Hv0 := (show vPts (F := F) c (kvSrcAt c 2) (kvQ 2) (kvF m c 2) ⊢ (((c : Thread nD τ).loc main_v2) ↦[(kvSrcAt c 2).view.set]{fullShare.left} vT m c) from .rfl) $$ Hv0
  ihave Hv0 := Bv0 $$ Hv0
  ihave Hv1 := (show vPts (F := F) c (kvSrcAt c 3) (kvQ 3) (kvF m c 3) ⊢ (((c : Thread nD τ).loc main_v2) ↦[(kvSrcAt c 3).view.set]{fullShare.right} vT m c) from .rfl) $$ Hv1
  ihave Hv1 := Bv1 $$ Hv1
  isplitl [Hk0 Hk1]
  · iapply hk.2
    isplitl [Hk0] <;> iassumption
  iapply hv.2
  isplitl [Hv0] <;> iassumption

/-! ## The region's data -/

/-- The scratch buffers at some contents. -/
def scr : sProp 𝕄 :=
  iprop(anyB (F := F) c cc0_scratch0 ∗ anyB (F := F) c cc0_scratch1 ∗ anyB (F := F) c cc0_scratch2 ∗ anyB (F := F) c cc0_scratch3 ∗ anyB (F := F) c cc0_scratch4)
/-- The flattened keys and values. -/
def kvHeld : sProp 𝕄 := iprop(pt c main_v1 (kT m c) ∗ pt c main_v2 (vT m c))
def Φ₀ : sProp 𝕄 := iprop(Xk m c ∗ kvHeld m c ∗ scr (F := F) c ∗ ∃ r, prngReg c r)
def Φ₁ : sProp 𝕄 := iprop((semVal (barCell c) 0 ∗ Pipeline.ownSems0 osem c) ∗ kvHeld m c ∗ scr (F := F) c ∗ ∃ r, prngReg c r)

/-- Before and after the body's one point: the arrays' contents, what the windows' buffers hold, and what is owed. -/
def dat0 : Dat τ (Elt F) Unit ℕ UU ℕ cfg0 c where
  A w := match w with
    | ⟨0, _⟩ => V₁ m c main_arg0
    | ⟨1, _⟩ => V₁ m c main_arg1
    | ⟨2, _⟩ => V₁ m c main_arg4
    | ⟨3, _⟩ => V₁ m c main_v3
  after w _ := match w with
    | ⟨0, _⟩ => xT m c
    | ⟨1, _⟩ => wqT m c
    | ⟨2, _⟩ => woT m c
    | ⟨3, _⟩ => OUT m
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body from the buffers the pipeline hands it. -/
theorem run_point (Q : PUnit → sProp 𝕄) :
    iprop((Φ₀ m c ∗ (∃ W, owes (c : Thread nD τ) (O₀ c) W) ∗ pt c cc0_stg0_0 (xT m c) ∗ pt c cc0_stg1_0 (wqT m c) ∗ pt c cc0_stg2_0 (woT m c) ∗ anyB c cc0_stg3_0)
      ∗ (iprop(Φ₁ m c ∗ (∃ W, owes (c : Thread nD τ) 0 W) ∗ pt c cc0_stg0_0 (xT m c) ∗ pt c cc0_stg1_0 (wqT m c) ∗ pt c cc0_stg2_0 (woT m c) ∗ pt c cc0_stg3_0 (OUT m)) -∗ Q ⟨⟩))
    ⊢ wpc c bodyP Q := by
  rw [bodyP_eq]
  show _ ⊢ wp frame (wpE (defs₀ (F := F)) 𝒱₀ (c : Thread nD τ) none) Set.univ (.op .deviceId fun d => phasesAt d) Q
  rw [wp_deviceId]
  unfold Φ₀ Xk kvHeld toks crds scr
  iintro ⟨⟨⟨⟨⟨%K, #HI, Hab, #HR, Hp⟩, ⟨Htb, ⟨Ht0, Ht1⟩, ⟨Ht2, Ht3⟩, Htk⟩, ⟨Hcb, Hc1, Hc3⟩, #Hlev⟩, Hkv, ⟨Hs0, Hs1, Hs2, Hs3, Hs4⟩, Hr⟩, HO, Hx, Hwq, Hwo, Hout⟩, Hk⟩
  ihave #HK := (allK_intro m K c) $$ [HI HR]
  · isplitr <;> iassumption
  ihave Hkv := (kv_lend m c) $$ Hkv
  icases Hkv with ⟨Hsrc, Hback⟩
  ihave Hp := (Entails.of_eq (posK_split (F := F) c 0)) $$ Hp
  icases Hp with ⟨⟨Ha0, Ha1, Ha2, Ha3⟩, Hak⟩
  iapply (run_body m K c Q)
  isplitr [Hk Hback Hr]
  · unfold bodyIn
    isplitr; · iexact Hlev
    isplitl [HO]; · iexact HO
    isplitr; · iexact HK
    isplitl [Hcb Hab]
    · isplitr
      · unfold invK
        icases HI with ⟨-, -, #Hb⟩
        iexact Hb
      isplitl [Hcb] <;> iassumption
    isplitl [Htb]; · iexact Htb
    isplitl [Ht0 Ht1 Hc1 Ha0 Ha1]
    · isplitl [Ht0]; · iexact Ht0
      isplitl [Ht1]; · iexact Ht1
      isplitl [Hc1]; · iexact Hc1
      isplitl [Ha0] <;> iassumption
    isplitl [Ht2 Ht3 Hc3 Ha2 Ha3]
    · isplitl [Ht2]; · iexact Ht2
      isplitl [Ht3]; · iexact Ht3
      isplitl [Hc3]; · iexact Hc3
      isplitl [Ha2] <;> iassumption
    isplitl [Hak Htk Hsrc]
    · ihave H := (Entails.of_eq (bigSep_sep' Finset.univ (fun i : Fin 4 => dutyTok ER (kvCell c i) 0 0) (fun i : Fin 4 => vPts (F := F) c (kvSrcAt c i) (kvQ i) (kvF m c i))).symm) $$ [Htk Hsrc]
      · isplitl [Htk] <;> iassumption
      ihave H := (Entails.of_eq (bigSep_sep' Finset.univ (fun i : Fin 4 => atPos ER (kvCell c i) 0 ∅ 0) (fun i : Fin 4 => iprop(dutyTok ER (kvCell c i) 0 0 ∗ vPts (F := F) c (kvSrcAt c i) (kvQ i) (kvF m c i)))).symm) $$ [Hak H]
      · isplitl [Hak] <;> iassumption
      have hm : iprop(iprop(invK m K c ∗ rchK (F := F) c) ∗ bigSep Finset.univ fun i : Fin 4 => iprop(atPos ER (kvCell c i) 0 ∅ 0 ∗ dutyTok ER (kvCell c i) 0 0
          ∗ vPts (F := F) c (kvSrcAt c i) (kvQ i) (kvF m c i))) ⊢ bigSep Finset.univ (kvK m K c) := bigSep_with_persistent fun i _ => by
        show _ ⊢ kvK m K c i
        unfold kvK
        iintro ⟨#HH, Ha, Ht, Hs⟩
        isplitr; · iapply (known_own m K c (.inr i)); iexact HH
        isplitl [Ha]; · iexact Ha
        isplitl [Ht] <;> iassumption
      iapply hm
      isplitr
      · isplitr <;> iassumption
      iexact H
    isplitl [Hx Hwq Hwo Hout]
    · isplitl [Hx]; · iexact Hx
      isplitl [Hwq]; · iexact Hwq
      isplitl [Hwo] <;> iassumption
    isplitl [Hs0]; · iexact Hs0
    isplitl [Hs1]; · iexact Hs1
    isplitl [Hs2]; · iexact Hs2
    isplitl [Hs3] <;> iassumption
  unfold bodyOut
  iintro ⟨HO, Hab, ⟨Ha0, Ha1⟩, ⟨Ha2, Ha3⟩, Hkl, ⟨Hx, Hwq, Hwo, Hout⟩, Hs⟩
  have hs : bigSep Finset.univ (kvLeft m c) = iprop((bigSep Finset.univ fun i : Fin 4 => vPts (F := F) c (kvSrcAt c i) (kvQ i) (kvF m c i))
      ∗ bigSep Finset.univ fun i : Fin 4 => atPos ER (kvCell c i) 1 ∅ 0) := bigSep_sep' Finset.univ _ _
  ihave Hkl := (Entails.of_eq hs) $$ Hkl
  icases Hkl with ⟨Hsrc, Hak⟩
  ihave Hkv := Hback $$ Hsrc
  ihave Hp := (Entails.of_eq (posK_split (F := F) c 1).symm) $$ [Ha0 Ha1 Ha2 Ha3 Hak]
  · isplitr [Hak]
    · isplitl [Ha0]; · iexact Ha0
      isplitl [Ha1]; · iexact Ha1
      isplitl [Ha2] <;> iassumption
    iexact Hak
  imod (close_cells m K c) $$ [Hab Hp] with Hz
  · isplitr; · iexact HI
    isplitl [Hab] <;> iassumption
  rw [wp_ret]
  imodintro
  iapply Hk
  isplitl [Hz Hkv Hs Hr]
  · unfold Φ₁ kvHeld scr
    isplitl [Hz]; · iexact Hz
    isplitl [Hkv]; · iexact Hkv
    isplitl [Hs] <;> iassumption
  isplitl [HO]; · iexact HO
  isplitl [Hx]; · iexact Hx
  isplitl [Hwq]; · iexact Hwq
  isplitl [Hwo] <;> iassumption

end Ghost

end Cert.KernelIdeal.Run

end
-- ==== Proof.Call.lean ====
/-
  The kernel's call as a region of the program, between the two host stretches.
-/
module

public import proofs.«01_k».proof.Proof.Region

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The body's obligation -/

theorem owed_first (c : Dev nD) : (dat0 m c).owed t0_0.castSucc = O₀ c := rfl
theorem owed_last (c : Dev nD) : (dat0 m c).owed t0_0.succ = 0 := rfl
theorem fetch_in (w : Fin 4) (hw : w.val < 3) : (cfg0.win w).fetch t0_0 = true := by
  fin_cases w
  · rfl
  · rfl
  · rfl
  · exact absurd hw (by decide)

theorem index_zero (w : Fin 4) (a : Fin (cfg0.win w).shape.rank) : (cfg0.win w).index t0_0 a = 0 := by
  fin_cases w <;> rfl
/-- Each window's one block is its array. -/
theorem blk_emb (w : Fin 4) (y : ((cfg0.win w).xblock (cfg0.grid.coords t0_0)).Idx) (a : Fin (cfg0.win w).shape.rank) :
    ((((cfg0.win w).rect t0_0).emb y a : Fin _) : ℕ) = (y a : ℕ) :=
  Pipeline.Window.rect_emb_val_of_index_zero _ _ _ (index_zero w a) y

theorem before_in (c : Dev nD) (d0 d1 d2) : (dat0 m c).before (0 : Fin 4) t0_0 d0 = xT m c ∧ (dat0 m c).before (1 : Fin 4) t0_0 d1 = wqT m c
    ∧ (dat0 m c).before (2 : Fin 4) t0_0 d2 = woT m c := by
  refine ⟨?_, ?_, ?_⟩
  · unfold Dat.before; rw [if_pos (fetch_in 0 (by decide))]
    show (fun y => V₁ m c main_arg0 (((cfg0.win 0).rect t0_0).emb y)) = xT m c
    exact funext fun y => congrArg (V₁ m c main_arg0) (funext fun a => Fin.ext (blk_emb 0 y a))
  · unfold Dat.before; rw [if_pos (fetch_in 1 (by decide))]
    show (fun y => V₁ m c main_arg1 (((cfg0.win 1).rect t0_0).emb y)) = wqT m c
    exact funext fun y => congrArg (V₁ m c main_arg1) (funext fun a => Fin.ext (blk_emb 1 y a))
  · unfold Dat.before; rw [if_pos (fetch_in 2 (by decide))]
    show (fun y => V₁ m c main_arg4 (((cfg0.win 2).rect t0_0).emb y)) = woT m c
    exact funext fun y => congrArg (V₁ m c main_arg4) (funext fun a => Fin.ext (blk_emb 2 y a))

/-- A staging buffer owned whole. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem stg_pt (c : Dev nD) (b : Ref sig .tc) (X : b.ty.Contents (Elt F)) : stg c b X ⊢ pt c b X := by
  iintro ⟨%f, %h, H⟩; subst h; iexact H
theorem pt_stg (c : Dev nD) (b : Ref sig .tc) (X : b.ty.Contents (Elt F)) : pt c b X ⊢ stg c b X := by
  iintro H; iexists X; isplitr; · (ipureintro; rfl)
  iexact H

/-- What the library calls the body with, and what it takes back. -/
def bodyPre (c : Dev nD) : sProp 𝕄 :=
  iprop(Φ₀ m c ∗ (dat0 m c).owesAt () t0_0.castSucc ∗ (∃ d, stg c cc0_stg0_0 ((dat0 m c).before (0 : Fin 4) t0_0 d))
    ∗ (∃ d, stg c cc0_stg1_0 ((dat0 m c).before (1 : Fin 4) t0_0 d)) ∗ (∃ d, stg c cc0_stg2_0 ((dat0 m c).before (2 : Fin 4) t0_0 d))
    ∗ (∃ d, stg c cc0_stg3_0 ((dat0 m c).before (3 : Fin 4) t0_0 d)))
def bodyPost (c : Dev nD) : sProp 𝕄 :=
  iprop(Φ₁ m c ∗ (dat0 m c).owesAt () t0_0.succ ∗ stg c cc0_stg0_0 (xT m c) ∗ stg c cc0_stg1_0 (wqT m c) ∗ stg c cc0_stg2_0 (woT m c) ∗ stg c cc0_stg3_0 (OUT m))

theorem run_cc0 (c : Dev nD) : bodyPre m c ⊢ wpc c bodyP (fun _ => bodyPost m c) := by
  unfold bodyPre
  iintro ⟨HΦ, HO, ⟨%d0, H0⟩, ⟨%d1, H1⟩, ⟨%d2, H2⟩, ⟨%d3, H3⟩⟩
  obtain ⟨e0, e1, e2⟩ := before_in m c d0 d1 d2
  rw [e0, e1, e2]
  ihave H0 := (stg_pt c cc0_stg0_0 (xT m c)) $$ H0
  ihave H1 := (stg_pt c cc0_stg1_0 (wqT m c)) $$ H1
  ihave H2 := (stg_pt c cc0_stg2_0 (woT m c)) $$ H2
  icases H3 with ⟨%f3, -, H3⟩
  iapply (run_point m c fun _ => bodyPost m c)
  isplitl [HΦ HO H0 H1 H2 H3]
  · isplitl [HΦ]; · iexact HΦ
    isplitl [HO]
    · unfold Dat.owesAt Pipeline.owesWithin
      rw [owed_first]
      icases HO with ⟨%W, -, HO⟩
      iexists W; iexact HO
    isplitl [H0]; · iexact H0
    isplitl [H1]; · iexact H1
    isplitl [H2]; · iexact H2
    iexists f3; iexact H3
  iintro ⟨HΦ, ⟨%W, HO⟩, H0, H1, H2, H3⟩
  unfold bodyPost
  isplitl [HΦ]; · iexact HΦ
  isplitl [HO]
  · unfold Dat.owesAt Pipeline.owesWithin
    rw [owed_last]
    iexists W
    isplitr; · ipureintro; exact fun _ _ => Or.inl trivial
    iexact HO
  isplitl [H0]; · iapply (pt_stg c cc0_stg0_0 (xT m c)); iexact H0
  isplitl [H1]; · iapply (pt_stg c cc0_stg1_0 (wqT m c)); iexact H1
  isplitl [H2]; · iapply (pt_stg c cc0_stg2_0 (woT m c)); iexact H2
  iapply (pt_stg c cc0_stg3_0 (OUT m)); iexact H3

set_option maxRecDepth 65536 in
/-- The body's obligation on device `c`. -/
theorem body_obl (c : Dev nD) : BodyObligation (dat0 (F := F) m c) defs₀ 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ
    (cc0_body (F := F) xM (Memref.isWhole_whole _) wqM (Memref.isWhole_whole _) kM (Memref.isWhole_whole _) vM (Memref.isWhole_whole _)
      woM (Memref.isWhole_whole _) outM (Memref.isWhole_whole _) ctxM (Memref.isWhole_whole _) parM (Memref.isWhole_whole _)
      rsM (Memref.isWhole_whole _) redM (Memref.isWhole_whole _) kvM (Memref.isWhole_whole _)
      cc0_scratch5 cc0_scratch6 cc0_scratch7 cc0_scratch8 cc0_scratch9) (fun _ => bodyPost m c)
  rw [body_eq]
  exact run_cc0 m c

/-! ## The region -/

abbrev adm : (p : Fin 1) → (pcfgs (F := F) p).Adm := fun p => (cfgs p).toPCfg_adm
def pdats (_ : Fin 1) (c : Dev nD) : Dat τ (Elt F) Unit ℕ UU ℕ cfg0 c := dat0 m c

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_O₀ (c : Dev nD) : Above 0 (O₀ c) :=
  above_dueL 0 _ (fun j => above_tally 0 _ _ _ (by rw [lv_bar]; decide)) _ ((above_Ob c).mono (by decide)) steps

theorem cut_stage (c : Dev nD) (w : Fin 4) (s : Fin (spec0 w).nbuf) : lv ((c : Thread nD τ), .dma ((spec0 w).sem s)) () ≤ 0 := by
  unfold lv; rw [role_stage]; exact le_refl 0
theorem cut_owed (c : Dev nD) (t : Fin (cfg0.N + 1)) (g : GSem nD τ sig) (i : Unit) (h : 0 < (dat0 (F := F) m c).owed t g i) : i ∈ L g ∧ 0 < lv g i := by
  obtain ⟨t, ht⟩ := t
  cases t with
  | zero =>
    obtain ⟨h1, h2⟩ := above_O₀ c g i h
    exact ⟨by unfold L; rw [if_pos h1]; exact Finset.mem_singleton_self _, h2⟩
  | succ t => exact absurd h (Nat.lt_irrefl 0)

/-- The program's buffers outside the kernel's scope; those the kernel reads by its own copies. -/
abbrev bufs : Finset (DevRef τ sig) := Pipeline.ucRefs τ sig
abbrev arrs : Finset (DevRef τ sig) := Pipeline.arrRefs spec0
abbrev Hs : Finset (DevRef τ sig) := {Proc.devRef .tc main_v1, Proc.devRef .tc main_v2}
theorem Hs_sub : Hs ⊆ bufs \ arrs := by decide
theorem arrs_sub : arrs ⊆ bufs := by decide

/-- After the kernel's call, and at the end. -/
abbrev V₂ (c : Dev nD) : Valuation τ sig (Elt F) := Function.update (V₁ m c) (Proc.devRef .tc main_v3) (OUT m)
abbrev V₃ (c : Dev nD) : Valuation τ sig (Elt F) := StableHlo.after hostOps1 (V₂ m c)

theorem V₂_of_ne (c : Dev nD) (b : Ref sig .tc) (h : (Proc.devRef .tc b : DevRef τ sig) ≠ Proc.devRef .tc main_v3) : V₂ m c b = V₁ m c b :=
  Function.update_of_ne h ..

theorem Hs_eq (c : Dev nD) (W : Valuation τ sig (Elt F)) : (StableHlo.held (c : Thread nD τ) Hs W : sProp 𝕄) = iprop(pt c main_v1 (W main_v1) ∗ pt c main_v2 (W main_v2)) := by
  unfold StableHlo.held
  rw [bigSep_eq_bigSepL_of_eq [Proc.devRef .tc main_v1, Proc.devRef .tc main_v2] (by decide) (by decide)]
  rfl

theorem arr_first (c : Dev nD) (w : Fin 4) : (dat0 m c).arrAt w 0 = V₁ m c (Proc.devRef .tc (Pipeline.arrRef spec0 w)) := by
  fin_cases w <;> rfl
theorem arr_last (c : Dev nD) (w : Fin 4) : (dat0 m c).arrAt w cfg0.N = V₂ m c (Proc.devRef .tc (Pipeline.arrRef spec0 w)) := by
  fin_cases w
  · exact ((dat0 m c).arrAt_in (0 : Fin 4) rfl _).trans (V₂_of_ne m c main_arg0 (by decide)).symm
  · exact ((dat0 m c).arrAt_in (1 : Fin 4) rfl _).trans (V₂_of_ne m c main_arg1 (by decide)).symm
  · exact ((dat0 m c).arrAt_in (2 : Fin 4) rfl _).trans (V₂_of_ne m c main_arg4 (by decide)).symm
  · refine (Dat.arrAt_eq_of_after_last (dat0 m c) (3 : Fin 4) t0_0 (by decide) (OUT m) (fun j => rfl)).trans ?_
    exact (Function.update_self (Proc.devRef .tc main_v3 : DevRef τ sig) (OUT m) (V₁ m c)).symm

theorem enter (c : Dev nD) : iprop(Tk m c ∗ Pipeline.ownSems0 osem c ∗ levAts L lv) ⊢ (|={Set.univ}=> Xk m c : sProp 𝕄) := by
  unfold Tk Xk
  iintro ⟨⟨⟨%K, #HI, Hab, Ho⟩, Ht, Hc⟩, Hs, #Hlev⟩
  imod (open_cells m K c) $$ [Ho Hs] with ⟨Hp, #HR⟩
  · isplitr; · iexact HI
    isplitl [Ho] <;> iassumption
  imodintro
  isplitl [Hab Hp]
  · iexists K
    isplitr; · iexact HI
    isplitl [Hab]; · iexact Hab
    isplitr; · iexact HR
    iexact Hp
  isplitl [Ht]; · iexact Ht
  isplitl [Hc]; · iexact Hc
  iexact Hlev

theorem start_point (c : Dev nD) : iprop(Pipeline.scopedRest spec0 c ∗ (∃ r, prngReg c r) ∗ StableHlo.held (c : Thread nD τ) Hs (V₁ m c) ∗ Xk m c) ⊢ Φ₀ m c := by
  rw [Hs_eq, scopedRest0_eq]
  unfold Φ₀ kvHeld scr
  iintro ⟨Hs, Hp, Hh, HX⟩
  isplitl [HX]; · iexact HX
  isplitl [Hh]; · iexact Hh
  isplitl [Hs]; · iexact Hs
  iexact Hp

theorem end_point (c : Dev nD) : Φ₁ m c ⊢ iprop(Pipeline.scopedRest spec0 c ∗ (∃ r, prngReg c r) ∗ StableHlo.held (c : Thread nD τ) Hs (V₂ m c)
    ∗ Pipeline.ownSems0 osem c ∗ Yk (F := F) c) := by
  rw [Hs_eq, scopedRest0_eq, V₂_of_ne m c main_v1 (by decide), V₂_of_ne m c main_v2 (by decide)]
  unfold Φ₁ kvHeld scr Yk
  iintro ⟨⟨Hb, Ho⟩, Hh, Hs, Hp⟩
  isplitl [Hs]; · iexact Hs
  isplitl [Hp]; · iexact Hp
  isplitl [Hh]; · iexact Hh
  isplitl [Ho] <;> iassumption

theorem rest_same (c : Dev nD) : ∀ b ∈ (bufs \ arrs) \ Hs, V₂ m c b = V₁ m c b := fun b hb =>
  Function.update_of_ne (fun h => by subst h; exact absurd hb (by decide)) ..

set_option backward.isDefEq.respectTransparency.types false in
/-- The kernel's call. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    Hs (bufs \ arrs) Hs_sub kitP rfl (fun c => (body_obl m c).loose)
    (fun _ => 0) O₀ (fun c => (zero_add _).symm) (fun _ => rfl) (fun _ => rfl) (fun c w => (pdats m 0 c).share_full (fun _ => rfl) w)
    (V₁ m) (V₂ m) (rest_same m)
    (Tk m) Yk (Xk m) Yk (enter m) (start_point m) (end_point m)
    (fun c => by iintro H; imodintro; iexact H)
    (fun _ => 0)
    ⟨fun c w s => by rw [L_tc]; exact Finset.mem_singleton_self _, fun c w s => cut_stage c w s, fun c t g i h => cut_owed m c t g i h⟩
    (fun _ => iprop(emp))
    (arr_first m) (arr_last m)

end Cert.KernelIdeal.Run

end
-- ==== Proof.Launch.lean ====
/-
  The launch: the cells and tokens dealt to the devices, and the run of the whole program.
-/
module

public import proofs.«01_k».proof.Proof.Call

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The host's stretches -/

abbrev HSeg : Type 1 := Pipeline.HostSeg (Name := ℕ) (U := UU) (pcfgs (F := F)) defs₀ 𝒱₀ L lv

/-- Beside the buffers before the call, and after it. -/
def R0 (c : Dev nD) : sProp 𝕄 := iprop(Tk m c ∗ (∃ r, prngReg c r) ∗ ∃ W, owes (c : Thread nD τ) (O₀ c) W)
def R1 (c : Dev nD) : sProp 𝕄 := iprop(Yk (F := F) c ∗ (∃ r, prngReg c r) ∗ ∃ W, owes (c : Thread nD τ) (0 : CellTallies nD τ sig Unit) W)

theorem ops0_sub : ∀ op ∈ (hostOps0 : List (HloOp τ sig (Elt F))), op.bufs ⊆ bufs :=
  fun op h => Pipeline.sub_ucRefs op (List.forall_iff_forall_mem.mp hostOps0_sub op h)
theorem ops1_sub : ∀ op ∈ (hostOps1 : List (HloOp τ sig (Elt F))), op.bufs ⊆ bufs :=
  fun op h => Pipeline.sub_ucRefs op (List.forall_iff_forall_mem.mp (show List.Forall _ (hostOps1 : List (HloOp τ sig (Elt F))) from hostOps1_sub) op h)
theorem ops0_fresh : ∀ op ∈ (hostOps0 : List (HloOp τ sig (Elt F))), op.fresh = ∅ :=
  List.forall_iff_forall_mem.mp (show List.Forall _ (hostOps0 : List (HloOp τ sig (Elt F))) from ⟨rfl, rfl⟩)
theorem ops1_fresh : ∀ op ∈ (hostOps1 : List (HloOp τ sig (Elt F))), op.fresh = ∅ :=
  List.forall_iff_forall_mem.mp (show List.Forall _ (hostOps1 : List (HloOp τ sig (Elt F))) from rfl)

def seg0 : Pipeline.HostSeg (Name := ℕ) (U := UU) (pcfgs (F := F)) defs₀ 𝒱₀ L lv := Pipeline.HostSeg.ofOps _ _ _ _ _ bufs hostOps0 ops0_sub ops0_fresh (V₀ m) (R0 m)
def seg1 : Pipeline.HostSeg (Name := ℕ) (U := UU) (pcfgs (F := F)) defs₀ 𝒱₀ L lv := Pipeline.HostSeg.ofOps _ _ _ _ _ bufs hostOps1 ops1_sub ops1_fresh (V₂ m) R1

theorem reg0_pre (c : Dev nD) : (seg0 m).post c ⊢ (reg0 m).pre c := by
  show iprop(StableHlo.held (c : Thread nD τ) bufs (V₁ m c) ∗ R0 m c) ⊢ iprop(StableHlo.held (c : Thread nD τ) arrs (V₁ m c) ∗ (∃ r, prngReg c r)
    ∗ (StableHlo.held (c : Thread nD τ) (bufs \ arrs) (V₁ m c) ∗ emp) ∗ Tk m c ∗ ∃ Wd, owes (c : Thread nD τ) (0 + O₀ c) Wd)
  rw [StableHlo.held_sub_split (c : Thread nD τ) arrs_sub, zero_add]
  unfold R0
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c ⊢ (seg1 m).pre c := by
  show iprop(StableHlo.held (c : Thread nD τ) arrs (V₂ m c) ∗ (∃ r, prngReg c r)
    ∗ (StableHlo.held (c : Thread nD τ) (bufs \ arrs) (V₂ m c) ∗ emp) ∗ Yk (F := F) c ∗ ∃ Wd, owes (c : Thread nD τ) (0 : CellTallies nD τ sig Unit) Wd)
    ⊢ iprop(StableHlo.held (c : Thread nD τ) bufs (V₂ m c) ∗ R1 c)
  rw [StableHlo.held_sub_split (c : Thread nD τ) arrs_sub (V₂ m c)]
  unfold R1
  iintro ⟨Ha, Hp, ⟨Hr, -⟩, HY, HO⟩
  isplitl [Ha Hr]; · isplitl [Ha] <;> iassumption
  isplitl [HY]; · iexact HY
  isplitl [Hp] <;> iassumption

def segs : List (Pipeline.Seg (pcfgs (F := F)) adm (pdats m) () defs₀ 𝒱₀ L lv) := [.host (seg0 m), .region (reg0 m), .host (seg1 m)]

theorem main_eq (c : Dev nD) : main (F := F) c = Pipeline.Seg.run (segs m) :=
  main_segs adm (pdats m) () 𝒱₀ L lv (seg0 m) (seg1 m) (reg0 m) rfl rfl c

/-! ## Cells and tokens -/

def barEmb : Dev nD ↪ GSem nD τ sig := ⟨fun c => barCell c, fun _ _ h => congrArg (fun g : GSem nD τ sig => g.1.1) h⟩
def ownEmb : Dev nD × KI ↪ GSem nD τ sig :=
  ⟨fun x => ownCell x.1 x.2, fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

/-- A device's duties: thirty-one on its barrier cell, one on each copy's cell. -/
abbrev dutyAt (c : Dev nD) : Fin 31 ⊕ KI → GSem nD τ sig × ℕ × Fin 31
  | .inl d => (barCell c, 0, d)
  | .inr k => (ownCell c k, 0, 0)
theorem dutyAt_inj : Function.Injective fun x : Dev nD × (Fin 31 ⊕ KI) => dutyAt x.1 x.2 := by
  rintro ⟨c, d | k⟩ ⟨c', d' | k'⟩ h
  · have h1 : c = c' := congrArg (fun t : GSem nD τ sig × ℕ × Fin 31 => t.1.1.1) h
    have h2 : d = d' := congrArg (fun t : GSem nD τ sig × ℕ × Fin 31 => t.2.2) h
    rw [h1, h2]
  · exact absurd (congrArg (fun t : GSem nD τ sig × ℕ × Fin 31 => t.1.2) h).symm (osem_ne_bar k')
  · exact absurd (congrArg (fun t : GSem nD τ sig × ℕ × Fin 31 => t.1.2) h) (osem_ne_bar k)
  · have h1 : c = c' := congrArg (fun t : GSem nD τ sig × ℕ × Fin 31 => t.1.1.1) h
    have h2 : k = k' := osem_inj (congrArg (fun t : GSem nD τ sig × ℕ × Fin 31 => t.1.2) h)
    rw [h1, h2]
def allToks : Finset (GSem nD τ sig × ℕ × Fin 31) := Finset.univ.map ⟨fun x : Dev nD × (Fin 31 ⊕ KI) => dutyAt x.1 x.2, dutyAt_inj⟩

theorem cells_disjoint : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : KI) : ownCell c k ∈ (barCells ∪ ownCells : Finset (GSem nD τ sig)) :=
  Finset.mem_union_right _ (Finset.mem_map_of_mem ownEmb (Finset.mem_univ (c, k)))

/-- The launch's element: the pipeline library's and the protocol's. -/
def u₀ : UU :=
  (initOf (Pipeline.cells (Pipeline.pin (pcfgs (F := F)) adm) cellOf_inj) (Pipeline.launchToks (Pipeline.pin (pcfgs (F := F)) adm) cellOf_inj),
    launchOf barCells ownCells allToks)

abbrev ownLaunch : sProp 𝕄 := BI.own (ER (launchOf barCells ownCells allToks))
/-- The protocol's element, all with device zero until it is dealt. -/
def G (c : Dev nD) : sProp 𝕄 := if c = 0 then ownLaunch (F := F) else iprop(emp)
theorem G_all : bigSep Finset.univ (G (F := F)) = ownLaunch (F := F) := by
  have hrest : bigSep (Finset.univ.erase (0 : Dev nD)) (G (F := F)) = (BI.emp : sProp 𝕄) :=
    (bigSep_congr fun c hc => show G (F := F) c = BI.emp from if_neg (Finset.ne_of_mem_erase hc)).trans (BI.bigSep_emp_const _)
  rw [bigSep_univ_at _ (0 : Dev nD), hrest]
  exact (BI.equiv_iff.mp sep_emp).trans (if_pos rfl)

/-- What every device may consult: all cells' invariants, and the barriers reached. -/
def records (κ : GSem nD τ sig → ℕ) : sProp 𝕄 :=
  iprop((bigSep (barCells ∪ ownCells) fun g => cellInv ER (Rd m) (κ g) g) ∗ bigSep barCells fun g => reached ER g 0)
instance records_persistent (κ : GSem nD τ sig → ℕ) : BI.Persistent (records m κ) := by unfold records; infer_instance

theorem rec_at (κ : GSem nD τ sig → ℕ) {g : GSem nD τ sig} (hg : g ∈ (barCells ∪ ownCells : Finset (GSem nD τ sig))) :
    records m κ ⊢ cellInv ER (Rd m) (κ g) g := by
  have h : (bigSep (barCells ∪ ownCells) fun g => (cellInv ER (Rd m) (κ g) g : sProp 𝕄)) ⊢ cellInv ER (Rd m) (κ g) g := bigSep_elim hg
  unfold records
  iintro ⟨#H, -⟩
  iapply h; iexact H
theorem rec_known (κ : GSem nD τ sig → ℕ) (c : Dev nD) : records m κ ⊢ known m κ (barCell c) := by
  have h : (bigSep barCells fun g => (reached ER g 0 : sProp 𝕄)) ⊢ reached ER (barCell c) 0 :=
    bigSep_elim (Finset.mem_map_of_mem barEmb (Finset.mem_univ c))
  iintro #H
  unfold known
  isplitr; · iapply (rec_at m κ (bar_mem c)); iexact H
  unfold records
  icases H with ⟨-, #H⟩
  iapply h; iexact H

theorem rec_inv (κ : GSem nD τ sig → ℕ) (c : Dev nD) : records m κ ⊢ invK m κ c := by
  have h1 : records m κ ⊢ bigSep Finset.univ fun k : KI => cellInv ER (Rd m) (κ (ownCell c k)) (ownCell c k) :=
    bigSep_intro_persistent fun k _ => rec_at m κ (own_mem c k)
  have h2 : records m κ ⊢ bigSep Finset.univ fun j : Fin 31 => iprop(known m κ (barCell (nx c j))
        ∗ cellInv ER (Rd m) (κ (chCell 1 (nx c j) j)) (chCell 1 (nx c j) j) ∗ cellInv ER (Rd m) (κ (chCell 3 (nx c j) j)) (chCell 3 (nx c j) j)) :=
    bigSep_intro_persistent fun j _ => by
      iintro #H
      isplitr; · iapply (rec_known m κ (nx c j)); iexact H
      isplitr; · iapply (rec_at m κ (own_mem (nx c j) (.inl (1, j)))); iexact H
      iapply (rec_at m κ (own_mem (nx c j) (.inl (3, j)))); iexact H
  unfold invK
  iintro #H
  isplitr; · iapply h1; iexact H
  isplitr; · iapply h2; iexact H
  iapply (rec_at m κ (bar_mem c)); iexact H

/-! ## Tokens to their payers -/

/-- Steps and devices may be gathered in either order. -/
theorem swap (g : Dev nD → Fin 31 → sProp 𝕄) (t : Finset (Fin 31)) :
    (bigSep Finset.univ fun c : Dev nD => bigSep t fun j => g c j) = bigSep t fun j => bigSep Finset.univ fun c : Dev nD => g c j := by
  induction t using Finset.induction_on with
  | empty => simp only [BI.bigSep_empty]; exact BI.bigSep_emp_const _
  | insert j t hj ih =>
    refine (bigSep_congr fun c _ => BI.bigSep_insert (Φ := fun j => g c j) hj).trans ((bigSep_sep' _ _ _).trans ?_)
    rw [ih]; exact (BI.bigSep_insert (Φ := fun j => bigSep Finset.univ fun c : Dev nD => g c j) hj).symm

/-- Over all devices, a step's items at each device are its items at each device's peer of that step. -/
theorem around (f : Dev nD → Fin 31 → sProp 𝕄) :
    (bigSep Finset.univ fun c : Dev nD => bigSep Finset.univ fun j : Fin 31 => f c j)
      = bigSep Finset.univ fun c : Dev nD => bigSep Finset.univ fun j : Fin 31 => f (nx c j) j := by
  have hc (g : Dev nD → Fin 31 → sProp 𝕄) : (bigSep Finset.univ fun c : Dev nD => bigSep Finset.univ fun j : Fin 31 => g c j)
      = bigSep Finset.univ fun j : Fin 31 => bigSep Finset.univ fun c : Dev nD => g c j :=
    swap g Finset.univ
  rw [hc, hc fun c j => f (nx c j) j]
  exact bigSep_congr fun j _ => bigSep_univ_equiv (nxEquiv j) (fun c : Dev nD => f c j)

theorem regroup (A B C D E : sProp 𝕄) : iprop((A ∗ B ∗ C ∗ D) ∗ E) = iprop((A ∗ B) ∗ (C ∗ D) ∗ E) := by
  refine BI.equiv_iff.mp ⟨?_, ?_⟩
  · show iprop((A ∗ B ∗ C ∗ D) ∗ E) ⊢ iprop((A ∗ B) ∗ (C ∗ D) ∗ E)
    iintro ⟨⟨HA, HB, HC, HD⟩, HE⟩
    isplitl [HA HB]; · isplitl [HA] <;> iassumption
    isplitl [HC HD]; · isplitl [HC] <;> iassumption
    iexact HE
  · show iprop((A ∗ B) ∗ (C ∗ D) ∗ E) ⊢ iprop((A ∗ B ∗ C ∗ D) ∗ E)
    iintro ⟨⟨HA, HB⟩, ⟨HC, HD⟩, HE⟩
    isplitr [HE]
    · isplitl [HA]; · iexact HA
      isplitl [HB]; · iexact HB
      isplitl [HC] <;> iassumption
    iexact HE

theorem toks_home (c : Dev nD) : (bigSep Finset.univ fun k : Fin 31 ⊕ KI => (dutyTok ER (dutyAt c k).1 (dutyAt c k).2.1 (dutyAt c k).2.2 : sProp 𝕄))
    = iprop((bigSep Finset.univ fun j : Fin 31 => dutyTok ER (barCell c) 0 j.rev) ∗ (tokOwn c 0 ∗ tokOwn c 1) ∗ (tokOwn c 2 ∗ tokOwn c 3) ∗ tokKv c) := by
  have hd : (bigSep Finset.univ fun d : Fin 31 => (dutyTok ER (barCell c) 0 d : sProp 𝕄))
      = bigSep Finset.univ fun j : Fin 31 => dutyTok ER (barCell c) 0 j.rev := bigSep_univ_equiv Fin.revPerm _
  rw [bigSep_univ_sum, bigSep_univ_sum, bigSep_univ_prod, bigSep_W0, ← hd]
  exact congrArg (BI.sep _) (regroup (tokOwn c 0) (tokOwn c 1) (tokOwn c 2) (tokOwn c 3) (tokKv c))

theorem toks_eq : bigSep allToks (fun x => (dutyTok ER x.1 x.2.1 x.2.2 : sProp 𝕄)) = bigSep Finset.univ fun c : Dev nD => toks (F := F) c := by
  have ho (a : Fin 4) : (bigSep Finset.univ fun c : Dev nD => (tokOwn c a : sProp 𝕄)) = bigSep Finset.univ fun c : Dev nD => tokNx c a :=
    around fun c j => dutyTok ER (chCell a c j) 0 0
  have hb : (bigSep Finset.univ fun c : Dev nD => bigSep Finset.univ fun j : Fin 31 => (dutyTok ER (barCell c) 0 j.rev : sProp 𝕄))
      = bigSep Finset.univ fun c : Dev nD => tokBar c := around fun c j => dutyTok ER (barCell c) 0 j.rev
  unfold allToks toks
  rw [bigSep_map, bigSep_univ_prod]
  refine (bigSep_congr fun c _ => toks_home c).trans ?_
  rw [bigSep_sep', bigSep_sep', bigSep_sep', bigSep_sep', bigSep_sep', hb, ho 1, ho 3,
    bigSep_sep', bigSep_sep', bigSep_sep', bigSep_sep', bigSep_sep']

/-! ## Credits -/

/-- Launch credit of what a device owes step by step is the credit of each step. -/
theorem launchCred_steps (f : Dev nD → Fin 31 → CellTallies nD τ sig Unit) (l : List (Fin 31)) (B : Dev nD → CellTallies nD τ sig Unit) (c : Dev nD) :
    (Pipeline.launchCred (fun d => dueL (f d) l (B d)) c : sProp 𝕄)
      ⊢ iprop(Pipeline.launchCred B c ∗ bigSepL l fun j => Pipeline.launchCred (fun d => f d j) c) := by
  induction l with
  | nil =>
    rw [bigSepL_nil]
    show (Pipeline.launchCred B c : sProp 𝕄) ⊢ _
    iintro H
    isplitl [H]; · iexact H
    iempintro
  | cons j l ih =>
    rw [bigSepL_cons']
    refine (Entails.of_eq (Pipeline.launchCred_add (fun d => dueL (f d) l (B d)) (fun d => f d j) c)).trans ?_
    iintro ⟨H, Hj⟩
    ihave H := ih $$ H
    icases H with ⟨HB, HL⟩
    isplitl [HB]; · iexact HB
    isplitl [Hj] <;> iassumption

theorem cred_ch (a : Fin 4) (j : Fin 31) (c : Dev nD) :
    (Pipeline.launchCred (fun d : Dev nD => chDue a d j) c : sProp 𝕄) ⊢ cred (tallyAt (chCell a c j) () N) :=
  Pipeline.launchCred_tallyAt (osem (.inl (a, j))) (fun d => nx d j) (fun d => pr d j) (fun d => nx_pr d j) (fun d => pr_nx d j) () N c
theorem cred_bar (j : Fin 31) (c : Dev nD) :
    (Pipeline.launchCred (fun d : Dev nD => barDue d j) c : sProp 𝕄) ⊢ cred (tallyAt (barCell c) () 1) :=
  Pipeline.launchCred_tallyAt (.reg barS) (fun d => nx d j) (fun d => pr d j) (fun d => nx_pr d j) (fun d => pr_nx d j) () 1 c

/-- Unit credits on one cell are one credit of their number. -/
theorem cred_units (g : GSem nD τ sig) (l : List (Fin 31)) :
    (bigSepL l fun _ => (cred (tallyAt g () 1) : sProp 𝕄)) ⊢ cred (tallyAt g () l.length) := by
  induction l with
  | nil =>
    rw [List.length_nil, tallyAt_zero, cred_zero, bigSepL_nil]
    exact .rfl
  | cons j l ih =>
    rw [bigSepL_cons', show tallyAt g () (j :: l).length = tallyAt g () l.length + tallyAt g () 1 from (tallyAt_add g () l.length 1).symm]
    iintro ⟨H, HL⟩
    ihave HL := ih $$ HL
    iapply (cred_add _ _).2
    isplitl [HL] <;> iassumption

theorem creds (c : Dev nD) : (Pipeline.launchCred O₀ c : sProp 𝕄) ⊢ crds (F := F) c := by
  have h1 (a : Fin 4) : (bigSepL steps fun j => (Pipeline.launchCred (fun d : Dev nD => chDue a d j) c : sProp 𝕄)) ⊢ credAll (F := F) c a := by
    unfold credAll
    rw [by_steps]
    exact bigSepL_mono fun j _ => cred_ch a j c
  have h2 : (bigSepL steps fun j => (Pipeline.launchCred (fun d : Dev nD => barDue d j) c : sProp 𝕄)) ⊢ cred (tallyAt (barCell c) () 31) :=
    (bigSepL_mono fun j _ => cred_bar j c).trans (cred_units (barCell c) steps)
  have e0 : (Pipeline.launchCred O₀ c : sProp 𝕄) ⊢ _ := launchCred_steps (fun d => barDue d) steps Ob c
  have e1 : (Pipeline.launchCred Ob c : sProp 𝕄) ⊢ _ := launchCred_steps (fun d => chDue 1 d) steps Oc c
  have e2 : (Pipeline.launchCred Oc c : sProp 𝕄) ⊢ _ := launchCred_steps (fun d => chDue 3 d) steps 0 c
  unfold crds
  iintro H
  ihave H := e0 $$ H
  icases H with ⟨H, Hb⟩
  ihave H := e1 $$ H
  icases H with ⟨H, H1⟩
  ihave H := e2 $$ H
  icases H with ⟨-, H3⟩
  isplitl [Hb]; · iapply h2; iexact Hb
  isplitl [H1]; · iapply (h1 1); iexact H1
  iapply (h1 3); iexact H3

/-! ## The run -/

theorem bar_only (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem bar_sole : ∀ sm : SemLoc sig, sm.isScoped .tc = false → sm = .reg barS := by decide

/-- Before the program, and after it. -/
abbrev T₀ (c : Dev nD) : sProp 𝕄 := iprop(StableHlo.held (c : Thread nD τ) bufs (V₀ m c) ∗ R0 m c)
abbrev Tₙ (c : Dev nD) : sProp 𝕄 := iprop(StableHlo.held (c : Thread nD τ) bufs (V₃ m c) ∗ semVal (barCell c) 0)

/-- A device's share of the protocol: its positions, its cells to open, its tokens. -/
def share (c : Dev nD) : sProp 𝕄 := iprop(atPos ER (barCell c) 0 ∅ 0 ∗ opensK (F := F) c ∗ toks (F := F) c)
/-- And of the launch: its buffers, its credits, its debts, its generator. -/
def stock (c : Dev nD) : sProp 𝕄 :=
  iprop(StableHlo.held (c : Thread nD τ) bufs (V₀ m c) ∗ crds (F := F) c ∗ owes (c : Thread nD τ) (O₀ c) ∅ ∗ ∃ r, prngReg c r)

theorem T₀_of (κ : GSem nD τ sig → ℕ) (c : Dev nD) : iprop(records m κ ∗ (share c ∗ stock m c)) ⊢ T₀ m c := by
  unfold share stock T₀ R0 Tk
  iintro ⟨#HR, ⟨Hat, Ho, Ht⟩, Hh, Hc, HO, Hp⟩
  isplitl [Hh]; · iexact Hh
  isplitl [Hat Ho Ht Hc]
  · isplitl [Hat Ho]
    · iexists κ
      isplitr; · iapply (rec_inv m κ c); iexact HR
      isplitl [Hat] <;> iassumption
    isplitl [Ht] <;> iassumption
  isplitl [Hp]; · iexact Hp
  iexists ∅; iexact HO

theorem apart (A B : Dev nD → sProp 𝕄) : (bigSep Finset.univ fun c => iprop(A c ∗ B c)) = iprop(bigSep Finset.univ A ∗ bigSep Finset.univ B) :=
  bigSep_sep' _ _ _

theorem start_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(stock m c ∗ (semVal (barCell c) 0 ∗ G c)) : sProp 𝕄) := by
    rw [show unscopedBufs c (fun b => m ((c : Thread nD τ).loc b)) = StableHlo.held (c : Thread nD τ) bufs (V₀ m c) from Pipeline.unscopedBufs_held c (V₀ m c),
      bar_only]
    unfold stock
    iintro ⟨Hh, Hus, HO, Hcr, Hp, HG⟩
    ihave Hc := (creds (F := F) c) $$ Hcr
    isplitr [Hus HG]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => opensK (F := F) c) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(stock m c ∗ (semVal (barCell c) 0 ∗ G c)) : sProp 𝕄) from bigSep_mono fun c _ => hcore c) $$ H
  ihave H2 := (Entails.of_eq (apart _ _)) $$ H'; icases H2 with ⟨HB, H3⟩
  ihave H4 := (Entails.of_eq (apart _ _)) $$ H3; icases H4 with ⟨Hv, HG⟩
  ihave Hu := (show bigSep Finset.univ (G (F := F)) ⊢ BI.own (ER (launchOf barCells ownCells allToks)) from Entails.of_eq G_all) $$ HG
  imod (Rounds.fund_launch ER (Rd m) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share c ∗ stock m c)) fun c _ => T₀_of m κ c)
  isplitr
  · unfold records
    isplitr; · iexact Hinv
    iexact Hr
  iapply (Entails.of_eq (apart _ _).symm)
  isplitr [HB]
  · unfold share
    iapply (Entails.of_eq (apart _ _).symm); isplitl [Hat]; · iapply hat $$ Hat
    iapply (Entails.of_eq (apart _ _).symm); isplitl [Hopen]; · iapply hopen $$ Hopen
    iapply (Entails.of_eq (toks_eq (F := F))) $$ Htok
  · iexact HB

/-- The buffers the statement speaks of. -/
def told : Finset (DevRef τ sig) := {Proc.devRef .tc main_arg0, Proc.devRef .tc main_arg1, Proc.devRef .tc main_arg2, Proc.devRef .tc main_arg3,
  Proc.devRef .tc main_arg4, Proc.devRef .tc main_v4}
theorem told_sub : told ⊆ bufs := by decide
theorem told_eq (c : Dev nD) (W : Valuation τ sig (Elt F)) : (StableHlo.held (c : Thread nD τ) told W : sProp 𝕄)
    = iprop(pt c main_arg0 (W main_arg0) ∗ pt c main_arg1 (W main_arg1) ∗ pt c main_arg2 (W main_arg2) ∗ pt c main_arg3 (W main_arg3)
      ∗ pt c main_arg4 (W main_arg4) ∗ pt c main_v4 (W main_v4)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v4] (by decide) (by decide)]
  rfl

set_option backward.isDefEq.respectTransparency.types false in
/-- The program runs to its end on every device: its result holds the last valuation's, its arguments are as they were, and every
    semaphore is back at zero. -/
theorem run_main : θ_run defs (onTc (τ := τ) (main (F := F))) (s₀ m ρ)
    (fun r => (∀ c : Dev nD, (r.2.mem ((c : Thread nD τ).loc main_v4) = V₃ m c main_v4)
        ∧ (r.2.mem ((c : Thread nD τ).loc main_arg0) = V₃ m c main_arg0) ∧ (r.2.mem ((c : Thread nD τ).loc main_arg1) = V₃ m c main_arg1)
        ∧ (r.2.mem ((c : Thread nD τ).loc main_arg2) = V₃ m c main_arg2) ∧ (r.2.mem ((c : Thread nD τ).loc main_arg3) = V₃ m c main_arg3)
        ∧ (r.2.mem ((c : Thread nD τ).loc main_arg4) = V₃ m c main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg0_pre m c, fun c => reg0_post m c, fun c => ?_⟩
      show iprop(StableHlo.held (c : Thread nD τ) bufs (V₃ m c) ∗ R1 c)
        ⊢ iprop(Tₙ m c ∗ ∃ W, owes (c : Thread nD τ) (0 : CellTallies nD τ sig Unit) W)
      unfold R1 Yk
      iintro ⟨Hh, Hb, -, HO⟩
      isplitr [HO]
      · isplitl [Hh] <;> iassumption
      · iexact HO)
    (hinit := start_all m ρ)
    (QY := fun c s => ((s.mem ((Memref.whole main_v4).view.loc (c : Thread nD τ)) = V₃ m c main_v4)
        ∧ (s.mem ((Memref.whole main_arg0).view.loc (c : Thread nD τ)) = V₃ m c main_arg0)
        ∧ (s.mem ((Memref.whole main_arg1).view.loc (c : Thread nD τ)) = V₃ m c main_arg1)
        ∧ (s.mem ((Memref.whole main_arg2).view.loc (c : Thread nD τ)) = V₃ m c main_arg2)
        ∧ (s.mem ((Memref.whole main_arg3).view.loc (c : Thread nD τ)) = V₃ m c main_arg3)
        ∧ (s.mem ((Memref.whole main_arg4).view.loc (c : Thread nD τ)) = V₃ m c main_arg4))
      ∧ s.sem (barCell c) = 0)
    (hfin := fun c s' => by
      dsimp only [Tₙ]; rw [StableHlo.held_sub_split (c : Thread nD τ) told_sub, told_eq]
      iintro ⟨⟨⟨⟨H0, H1, H2, H3, H4, Hv⟩, -⟩, Hb⟩, HSI⟩
      icombine HSI H0 gives %h0
      icombine HSI H1 gives %h1
      icombine HSI H2 gives %h2
      icombine HSI H3 gives %h3
      icombine HSI H4 gives %h4
      icombine HSI Hv gives %hv
      icombine HSI Hb gives %hb
      imodintro
      isplitr
      · ipureintro
        exact ⟨⟨Buf.eq_of_forall_mem_univ hv, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => (h c).1,
      sem_eq_zero hs fun c sm hsm => by
        obtain rfl := bar_sole sm hsm
        exact (h c).2⟩)

end Cert.KernelIdeal.Run

end
-- ==== Proof.Frames.lean ====
/-
  The frames: each program runs to its end, its arguments as they were and every semaphore at zero.
-/
module

public import proofs.«01_k».proof.Defs
public import proofs.«01_k».proof.Proof.Gen.Kernel
public import proofs.«01_k».proof.Proof.Gen.ReferenceIdeal.Run
public import proofs.«01_k».proof.Proof.Launch

@[expose] public section

set_option synthInstance.maxSize 4096

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- The host's reshapes and the call write none of a buffer that is none of their results. -/
theorem V₃_kept (c : Dev nD) (b : Ref sig .tc) (h1 : b ≠ main_v1) (h2 : b ≠ main_v2) (h3 : b ≠ main_v3) (h4 : b ≠ main_v4) :
    V₃ m c (Proc.devRef .tc b) = m ((c : Thread nD τ).loc b) := by
  show StableHlo.after hostOps1 (V₂ m c) (Proc.devRef .tc b) = _
  rw [StableHlo.after_cons, StableHlo.after_nil, StableHlo.reshape_result_ne _ _ _ _ _ _ _ h4, V₂_of_ne m c b (StableHlo.devRef_ne_of_ne h3)]
  show StableHlo.after hostOps0 (V₀ m c) (Proc.devRef .tc b) = _
  rw [StableHlo.after_cons, StableHlo.after_cons, StableHlo.after_nil, StableHlo.reshape_result_ne _ _ _ _ _ _ _ h2, StableHlo.reshape_result_ne _ _ _ _ _ _ _ h1]

/-- The run, its arguments' ends read. -/
theorem run_args : θ_run defs (onTc (τ := τ) (main (F := F))) (s₀ m ρ)
    (fun r => (∀ c : Dev nD, (r.2.mem ((c : Thread nD τ).loc main_v4) = V₃ m c main_v4)
        ∧ (r.2.mem ((c : Thread nD τ).loc main_arg0) = m ((c : Thread nD τ).loc main_arg0)) ∧ (r.2.mem ((c : Thread nD τ).loc main_arg1) = m ((c : Thread nD τ).loc main_arg1))
        ∧ (r.2.mem ((c : Thread nD τ).loc main_arg2) = m ((c : Thread nD τ).loc main_arg2)) ∧ (r.2.mem ((c : Thread nD τ).loc main_arg3) = m ((c : Thread nD τ).loc main_arg3))
        ∧ (r.2.mem ((c : Thread nD τ).loc main_arg4) = m ((c : Thread nD τ).loc main_arg4))) ∧ r.2.sem = fun _ => 0) :=
  (θ_run defs _ _).mono (fun _ h => ⟨fun c => by
    obtain ⟨hv, h0, h1, h2, h3, h4⟩ := h.1 c
    exact ⟨hv, h0.trans (V₃_kept m c main_arg0 (by decide) (by decide) (by decide) (by decide)),
      h1.trans (V₃_kept m c main_arg1 (by decide) (by decide) (by decide) (by decide)),
      h2.trans (V₃_kept m c main_arg2 (by decide) (by decide) (by decide) (by decide)),
      h3.trans (V₃_kept m c main_arg3 (by decide) (by decide) (by decide) (by decide)),
      h4.trans (V₃_kept m c main_arg4 (by decide) (by decide) (by decide) (by decide))⟩, h.2⟩) (run_main m ρ)

end Cert.KernelIdeal.Run

namespace Cert.Proof

open Idealize.ShloMosaic Idealize.SL.Sem

set_option maxRecDepth 65536 in
theorem body_same {F : FTy → Type} [FloatOps F] : @Cert.Kernel.cc0_body F _ _ = @Cert.KernelIdeal.cc0_body F _ _ := rfl

/-- The kernel's calls are those of the program read at exact numbers: their texts are one. -/
theorem calls_same {F : FTy → Type} [FloatOps F] : (Cert.Kernel.defs₀ (F := F)) = Cert.KernelIdeal.defs₀ := by
  unfold Cert.Kernel.defs₀ Cert.KernelIdeal.defs₀
  congr 1
  funext l a
  match l, a with
  | 0, (t, s) => rfl

theorem defs_same {F : FTy → Type} [FloatOps F] : (Cert.Kernel.defs (F := F)) = Cert.KernelIdeal.defs := by
  unfold Cert.Kernel.defs Cert.KernelIdeal.defs
  rw [calls_same]; rfl

/-- The kernel at its own words. -/
theorem frame_kernel : Cert.quiescent_Kernel := fun m ρ _ => by
  rw [defs_same]
  exact (θ_run Cert.KernelIdeal.defs _ _).mono (fun _ h => ⟨fun c => (h.1 c).2, h.2⟩) (Cert.KernelIdeal.Run.run_args (F := Bits) m ρ)

/-- The kernel at exact numbers. -/
theorem frame_ideal : Cert.quiescent_KernelIdeal := fun m ρ _ =>
  (θ_run Cert.KernelIdeal.defs _ _).mono (fun _ h => ⟨fun c => (h.1 c).2, h.2⟩) (Cert.KernelIdeal.Run.run_args (F := Ideal) m ρ)

/-- The reference, which has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Attend.lean ====
/-
  Attention of one head of one batch over the extended reals: the formula, the vector operations the kernel spells it
  with, and that each of the kernel's eight payloads is those operations on its own slices.
-/
module

public import proofs.«01_k».proof.Proof.Gen.KernelIdeal.Skeleton
public import Idealize.ShloMosaic.Lib.Pointwise

@[expose] public section

set_option synthInstance.maxSize 4096

noncomputable section

namespace Cert.KernelIdeal.Att

open Cert.KernelIdeal Cert.KernelIdeal.Gen
open Idealize.ShloMosaic Idealize.SL.Sem

/-- One head's query and key products, scaled, the positions the mask leaves out at a large negative number. -/
def score (M : Fin 128 → Fin 128 → BitVec 1) (q k : Fin 128 → Fin 64 → EReal) (i j : Fin 128) : EReal :=
  Scalar.select (M i j) ((∑ e : Fin 64, q i e * k j e) * Ideal.ofBits .f32 0x3E000000#32) (Ideal.ofBits .f32 0xCE6E6B28#32)

/-- The greatest score of a row. -/
def peak (M : Fin 128 → Fin 128 → BitVec 1) (q k : Fin 128 → Fin 64 → EReal) (i : Fin 128) : EReal :=
  Finset.univ.fold max (Ideal.ofBits .f32 0xFF800000#32) fun j => score M q k i j

/-- The exponential of a score less its row's greatest. -/
def grade (M : Fin 128 → Fin 128 → BitVec 1) (q k : Fin 128 → Fin 64 → EReal) (i j : Fin 128) : EReal :=
  Ideal.exp (score M q k i j - peak M q k i)

/-- The mean of the values' rows, each weighted by its exponential over the row's sum of exponentials. -/
def attend (M : Fin 128 → Fin 128 → BitVec 1) (q k v : Fin 128 → Fin 64 → EReal) (i : Fin 128) (d : Fin 64) : EReal :=
  ∑ j : Fin 128, Ideal.div (grade M q k i j) (∑ l : Fin 128, grade M q k i l) * v j d

section
variable {F : FTy → Type} [FloatOps F]

/-- The same in the kernel's vector operations. -/
def headV (M : IVec S128x128 1) (q k v : FVec F S128x64 .f32) : FVec F S128x64 .f32 :=
  have s : FVec F S128x128 .f32 := select M
    (mulf (matmul dot_S128x64_S128x64_S128x128_1_1_0_0_n_n none q k (constant S128x128 .f32 0x00000000#32))
      (broadcast S128x128 (Scalar.ofBits .f32 0x3E000000#32)))
    (broadcast S128x128 (Scalar.ofBits .f32 0xCE6E6B28#32))
  have e : FVec F S128x128 .f32 := exp (subf s (broadcastTo S128x128 (shapeCast S128x1
    (multiReduction .maximumf [1] S128 s 0xFF800000#32 reduces_S128x128_S128 (.inl rfl) rfl)
    shapeCasts_S128_S128x1) broadcasts_S128x1_S128x128))
  have w : FVec F S128x128 .f32 := divf e (broadcastTo S128x128 (shapeCast S128x1
    (multiReduction .add [1] S128 e 0x00000000#32 reduces_S128x128_S128 (.inl rfl) rfl)
    shapeCasts_S128_S128x1) broadcasts_S128x1_S128x128)
  matmul dot_S128x128_S128x64_S128x64_1_0_0_1_n_n none w v (constant S128x64 .f32 0x00000000#32)
end

set_option maxRecDepth 16384 in
/-- The vector operations read at one entry. -/
theorem headV_apply (M : IVec S128x128 1) (q k v : FVec Ideal S128x64 .f32) (i : Fin 128) (d : Fin 64) :
    headV M q k v (ix2 i d) = attend (fun a b => M (ix2 a b)) (fun a b => q (ix2 a b)) (fun a b => k (ix2 a b))
      (fun a b => v (ix2 a b)) i d := by
  pointwise [headV]
  rfl

end Cert.KernelIdeal.Att

end
-- ==== Proof.Mask.lean ====
/-
  Which pairs of positions attend to one another: those of one block of 64. The kernel's mask reads as that.
-/
module

public import proofs.«01_k».proof.Proof.Attend
public import proofs.«01_k».proof.Proof.Phases

@[expose] public section

set_option synthInstance.maxSize 4096

noncomputable section

namespace Cert.KernelIdeal.Att

open Cert.KernelIdeal Cert.KernelIdeal.Gen
open Idealize.ShloMosaic Idealize.SL.Sem

/-- One where the two positions are of one block of 64. Of two blocks no two are congruent modulo 4 but a block and itself. -/
def band (i j : Fin 128) : BitVec 1 := BitVec.ofBool (decide (i.val / 64 = j.val / 64))

/-- A position's block is the first or the second. -/
theorem block_cases (i : Fin 128) : i.val / 64 = 0 ∨ i.val / 64 = 1 := by omega

set_option maxRecDepth 16384 in
/-- The kernel's floor division of a row's position. -/
theorem quot_row (i j : Fin 128) : k0_pay6 k0_pay2 k0_pay3 k0_pay4 k0_pay5 (ix2 i j) = BitVec.ofNat 32 (i.val / 64) := by
  pointwise [k0_pay6, k0_pay2, k0_pay3, k0_pay4, k0_pay5]
  revert i; decide

set_option maxRecDepth 16384 in
/-- Its floor division of a column's position. -/
theorem quot_col (i j : Fin 128) :
    k0_pay7 (iota .tc S128x128 32 [1] iota_S128x128_d1_w32) (ix2 i j) = BitVec.ofNat 32 (j.val / 64) := by
  pointwise [k0_pay7]
  revert j; decide

set_option maxRecDepth 16384 in
/-- The kernel's mask at one pair of positions. -/
theorem maskV_apply (i j : Fin 128) : Run.maskV (ix2 i j) = band i j := by
  pointwise [Run.maskV, k0_pay10, k0_pay8, k0_pay9]
  rw [quot_row, quot_col]
  unfold band
  rcases block_cases i with hi | hi <;> rcases block_cases j with hj | hj <;> rw [hi, hj] <;> decide

end Cert.KernelIdeal.Att

end
-- ==== Proof.Heads.lean ====
/-
  The kernel's result read at one entry, over what the devices hold at the call: every device's heads are attentions over
  its own columns of the query weights, keys and values, and the result is the sum of the devices' partial products.
-/
module

public import proofs.«01_k».proof.Proof.Mask
public import proofs.«01_k».proof.Proof.Call

@[expose] public section

set_option synthInstance.maxSize 4096

noncomputable section

namespace Cert.KernelIdeal.Att

open Cert.KernelIdeal Cert.KernelIdeal.Gen Cert.KernelIdeal.Run
open Idealize.ShloMosaic Idealize.ShloMosaic.TcCoe Idealize.SL.Sem

/-! ## Each stored head is the attention of its slices -/

/-- Where in the projected queries, and in the keys and values, head `n` of the device's eight begins. -/
theorem cut_q : ∀ n : Fin 8, S256x256.Slices ![n.val / 4 * 128, n.val % 4 * 64] S128x64 := by decide
theorem cut_kv : ∀ n : Fin 8, S128x256.Slices ![0, n.val % 4 * 64] S128x64 := by decide

section
variable {F : FTy → Type} [FloatOps F] (m : (ℓ : Loc nD τ sig) → Buf (Elt F) ℓ)

/-- Slot `k` of the keys and values as a matrix. -/
def rowsOf (c : Dev nD) (k : Fin 4) : FVec F S128x256 .f32 := shapeCast S128x256 (kvB m c k) shapeCasts_S1x1x128x256_S128x256

/-- The key slot and the value slot of a head's batch. -/
abbrev keySlot (n : Fin 8) : Fin 4 := ⟨n.val / 4, by omega⟩
abbrev valSlot (n : Fin 8) : Fin 4 := ⟨n.val / 4 + 2, by omega⟩

set_option maxRecDepth 16384 in
/-- Every one of the eight. -/
theorem HD_cast (c : Dev nD) (n : Fin 8) : HD m c n = shapeCast S128x64 (headV maskV
    (extractStridedSlice S128x64 ![n.val / 4 * 128, n.val % 4 * 64] (QQ m c) (cut_q n))
    (extractStridedSlice S128x64 ![0, n.val % 4 * 64] (rowsOf m c (keySlot n)) (cut_kv n))
    (extractStridedSlice S128x64 ![0, n.val % 4 * 64] (rowsOf m c (valSlot n)) (cut_kv n))) shapeCasts_S128x64_S128x64 := by
  fin_cases n <;> rfl
end

/-! ## Read at an entry, over the operands at the call -/

/-- A slice of a matrix at one entry. -/
theorem slice_apply {α : Type} {a b : ℕ} (o p : ℕ) (v : (⟨2, ![a, b]⟩ : Shape).Idx → α) (h : (⟨2, ![a, b]⟩ : Shape).Slices ![o, p] S128x64)
    (i : Fin 128) (e : Fin 64) (hi : o + i.val < a) (he : p + e.val < b) :
    extractStridedSlice S128x64 ![o, p] v h (ix2 i e) = v (ix2 ⟨o + i.val, hi⟩ ⟨p + e.val, he⟩) :=
  congrArg v (by idx_ext)

/-- Column `e` of device `c`'s 256 within the 8192. -/
abbrev colOf (c : Dev nD) (e : Fin 256) : Fin 8192 := ⟨c.val * 256 + e.val, by have : c.val < 32 := c.isLt; omega⟩
/-- Column `e` of head `h` within the 256. -/
abbrev inHead (h : Fin 4) (e : Fin 64) : Fin 256 := ⟨h.val * 64 + e.val, by omega⟩

section
variable {F : FTy → Type} [FloatOps F] (m : (ℓ : Loc nD τ sig) → Buf (Elt F) ℓ)

set_option maxRecDepth 16384 in
/-- A slot's row is a row of its batch in the device's columns: of the keys in the first two slots, -/
theorem rowsOf_key (c : Dev nD) (b : Fin 2) (j : Fin 128) (e : Fin 256) :
    rowsOf m c ⟨b.val, by omega⟩ (ix2 j e) = kT m c (ix3 b j (colOf c e)) := by
  pointwise [rowsOf]
  unfold kvB KV
  rw [if_pos (show b.val / 2 = 0 by omega)]
  refine congrArg (kT m c) ?_
  funext a
  fin_cases a
  · exact Fin.ext (show b.val % 2 = b.val by omega)
  · rfl
  · exact Fin.ext (show 256 * c.val + e.val = c.val * 256 + e.val by omega)

set_option maxRecDepth 16384 in
/-- of the values in the last two. -/
theorem rowsOf_val (c : Dev nD) (b : Fin 2) (j : Fin 128) (e : Fin 256) :
    rowsOf m c ⟨b.val + 2, by omega⟩ (ix2 j e) = vT m c (ix3 b j (colOf c e)) := by
  pointwise [rowsOf]
  unfold kvB KV
  rw [if_neg (show (b.val + 2) / 2 ≠ 0 by omega)]
  refine congrArg (vT m c) ?_
  funext a
  fin_cases a
  · exact Fin.ext (show (b.val + 2) % 2 = b.val by omega)
  · rfl
  · exact Fin.ext (show 256 * c.val + e.val = c.val * 256 + e.val by omega)
end

variable (m : (ℓ : Loc nD τ sig) → Buf (Elt Ideal) ℓ)

set_option maxRecDepth 16384 in
/-- A projected query. -/
theorem QQ_apply (c : Dev nD) (r e : Fin 256) : QQ m c (ix2 r e)
    = ∑ d : Fin 512, xT m c (ix3 ⟨r.val / 128, by omega⟩ ⟨r.val % 128, by omega⟩ d) * wqT m c (ix2 d e) := by
  pointwise [QQ, k0_pay1]

set_option maxRecDepth 16384 in
/-- A stored head's entry. -/
theorem HD_apply (c : Dev nD) (b : Fin 2) (h : Fin 4) (i : Fin 128) (d : Fin 64) :
    HD m c ⟨b.val * 4 + h.val, by omega⟩ (ix2 i d) = attend band
      (fun i e => ∑ d : Fin 512, xT m c (ix3 b i d) * wqT m c (ix2 d (inHead h e)))
      (fun j e => kT m c (ix3 b j (colOf c (inHead h e)))) (fun j e => vT m c (ix3 b j (colOf c (inHead h e)))) i d := by
  have hb : (b.val * 4 + h.val) / 4 = b.val := by omega
  have hh : (b.val * 4 + h.val) % 4 = h.val := by omega
  rw [HD_cast, shapeCast_self, headV_apply]
  have e1 : (fun i j : Fin 128 => maskV (ix2 i j)) = band := funext fun i => funext fun j => maskV_apply i j
  have e2 : ∀ (i : Fin 128) (e : Fin 64), extractStridedSlice S128x64 ![(b.val * 4 + h.val) / 4 * 128, (b.val * 4 + h.val) % 4 * 64] (QQ m c)
      (cut_q ⟨b.val * 4 + h.val, by omega⟩) (ix2 i e) = ∑ d : Fin 512, xT m c (ix3 b i d) * wqT m c (ix2 d (inHead h e)) := fun i e => by
    rw [slice_apply _ _ _ _ _ _ (by omega) (by omega), QQ_apply]
    refine Finset.sum_congr rfl fun d _ => ?_
    congr 2
    · congr 1 <;> exact Fin.ext (by show _ = _; simp only []; omega)
    · congr 1; exact Fin.ext (by simp only [hh])
  have e3 : ∀ (j : Fin 128) (e : Fin 64), extractStridedSlice S128x64 ![0, (b.val * 4 + h.val) % 4 * 64] (rowsOf m c (keySlot ⟨b.val * 4 + h.val, by omega⟩))
      (cut_kv ⟨b.val * 4 + h.val, by omega⟩) (ix2 j e) = kT m c (ix3 b j (colOf c (inHead h e))) := fun j e => by
    rw [slice_apply _ _ _ _ _ _ (by omega) (by omega), ← rowsOf_key]
    congr 1
    · refine Fin.ext ?_; exact hb
    · congr 1 <;> exact Fin.ext (by simp only [hh]; try omega)
  have e4 : ∀ (j : Fin 128) (e : Fin 64), extractStridedSlice S128x64 ![0, (b.val * 4 + h.val) % 4 * 64] (rowsOf m c (valSlot ⟨b.val * 4 + h.val, by omega⟩))
      (cut_kv ⟨b.val * 4 + h.val, by omega⟩) (ix2 j e) = vT m c (ix3 b j (colOf c (inHead h e))) := fun j e => by
    rw [slice_apply _ _ _ _ _ _ (by omega) (by omega), ← rowsOf_val]
    congr 1
    · refine Fin.ext ?_; show (b.val * 4 + h.val) / 4 + 2 = b.val + 2; omega
    · congr 1 <;> exact Fin.ext (by simp only [hh]; try omega)
  simp only [e1, e2, e3, e4]

/-- One entry of the context buffer. -/
theorem CTX_apply (c : Dev nD) (b : Fin 2) (i : Fin 128) (h : Fin 4) (d : Fin 64) :
    CTX m c (ix2 (⟨b.val * 128 + i.val, by omega⟩ : Fin 256) (inHead h d)) = HD m c ⟨b.val * 4 + h.val, by omega⟩ (ix2 i d) := by
  unfold CTX headOf
  rw [ix2_eq_valueIdx i d]
  congr 1
  · refine Fin.ext ?_; show (b.val * 128 + i.val) / 128 * 4 + (h.val * 64 + d.val) / 64 = b.val * 4 + h.val; omega
  · congr 1
    · exact Fin.ext (show (b.val * 128 + i.val) % 128 = i.val by omega)
    · exact Fin.ext (show (h.val * 64 + d.val) % 64 = d.val by omega)

set_option maxRecDepth 16384 in
/-- One entry of a partial product. -/
theorem PAR_apply (c : Dev nD) (r : Fin 256) (n : Fin 512) :
    PAR m c (ix2 r n) = ∑ e : Fin 256, CTX m c (ix2 r e) * woT m c (ix2 e n) := by
  pointwise [PAR, k0_pay29]

set_option maxRecDepth 16384 in
/-- One entry of a device's reduced rows: its own partial product's and the thirty-one others'. -/
theorem RED_apply (c : Dev nD) (r : Fin 8) (n : Fin 512) :
    RED m c (ix2 r n) = OWN m c (ix2 r n) + ∑ j : Fin 31, RS m c (ix3 j r n) := by
  pointwise [RED, k0_pay30]

/-- A device's own summand and the thirty-one before it in the ring are every device's. -/
theorem sum_ring {M : Type*} [AddCommMonoid M] (c : Dev nD) (f : Dev nD → M) : f c + ∑ j : Fin 31, f (pr c j) = ∑ p : Dev nD, f p := by
  rw [← Finset.add_sum_erase Finset.univ f (Finset.mem_univ c)]
  refine congrArg (f c + ·) (Finset.sum_bij (fun j _ => pr c j) (fun j _ => Finset.mem_erase.mpr ⟨pr_ne c j, Finset.mem_univ _⟩)
    (fun j _ j' _ h => pr_inj c h) (fun p hp => ?_) fun _ _ => rfl)
  obtain ⟨j, hj⟩ := exists_pr c p (Finset.mem_erase.mp hp).1
  exact ⟨j, Finset.mem_univ _, hj⟩

/-- One entry of the result: the sum of all the partial products'. -/
theorem OUT_apply (r : Fin 256) (n : Fin 512) : OUT m (ix2 r n) = ∑ p : Dev nD, PAR m p (ix2 r n) := by
  have hr : 8 * (r.val / 8) + r.val % 8 = r.val := by omega
  show RED m ⟨r.val / 8, _⟩ (ValueIdx.ix2 (⟨r.val % 8, _⟩ : Fin 8) n) = _
  rw [← ix2_eq_valueIdx, RED_apply, ← sum_ring ⟨r.val / 8, by show r.val / 8 < 32; omega⟩]
  have hx : ∀ h, ValueIdx.ix2 (⟨8 * (r.val / 8) + r.val % 8, h⟩ : Fin 256) n = ix2 r n := fun h => by
    rw [← ix2_eq_valueIdx]; exact congrArg (fun x => ix2 x n) (Fin.ext hr)
  exact congrArg₂ (· + ·) (congrArg (PAR m _) (hx _)) (Finset.sum_congr rfl fun j _ => congrArg (PAR m _) (hx _))

end Cert.KernelIdeal.Att

end
-- ==== Proof.RefValue.lean ====
/-
  The reference's result read at one entry: the product with the output weights of every head's attention.
-/
module

public import proofs.«01_k».proof.Proof.Mask
public import proofs.«01_k».proof.Proof.Gen.ReferenceIdeal.Run

@[expose] public section

set_option synthInstance.maxSize 4096

noncomputable section

namespace Cert.ReferenceIdeal.Att

open Cert.ReferenceIdeal Cert.ReferenceIdeal.Gen
open Idealize.ShloMosaic Idealize.ShloMosaic.TcCoe Idealize.SL.Sem
open Cert.KernelIdeal.Att (band attend block_cases)

/-! ## The mask -/

/-- Every position's block: its floor division by 64. -/
def blockOf : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- The number 4 as the remainder's divisor, a divisor of zero replaced by 1. -/
def four : IVec S_ 32 :=
  select (cmpi .eq (id (constantI S_ 32 4#32)) (constantI S_ 32 0#32)) (constantI S_ 32 1#32) (id (constantI S_ 32 4#32))

/-- The remainder modulo 4 with the divisor's sign. -/
def mod4 {s : Shape} (hb : S_.BroadcastsInDim s ![]) (x : IVec s 32) : IVec s 32 :=
  select (andi
      (cmpi .ne (cmpi .slt (Host.remsi x (broadcastInDim s ![] hb four)) (broadcastInDim s ![] hb (constantI S_ 32 0#32)))
        (broadcastInDim s ![] hb (cmpi .slt four (constantI S_ 32 0#32))))
      (cmpi .ne (Host.remsi x (broadcastInDim s ![] hb four)) (broadcastInDim s ![] hb (constantI S_ 32 0#32))))
    (addi (Host.remsi x (broadcastInDim s ![] hb four)) (broadcastInDim s ![] hb four))
    (Host.remsi x (broadcastInDim s ![] hb four))

/-- The blocks down a column and along a row. -/
def down : IVec S128x1 32 := broadcastInDim S128x1 ![0] bcast_S128_S128x1_0 blockOf
def along : IVec S1x128 32 := broadcastInDim S1x128 ![1] bcast_S128_S1x128_1 blockOf

/-- The reference's mask. -/
def maskR : IVec S128x128 1 :=
  ori (cmpi .eq (broadcastInDim S128x128 ![0, 1] bcast_S128x1_S128x128_0_1 down) (broadcastInDim S128x128 ![0, 1] bcast_S1x128_S128x128_0_1 along))
    (cmpi .eq (broadcastInDim S128x128 ![0, 1] bcast_S1x128_S128x128_0_1 (mod4 bcast_S_S1x128 along))
      (broadcastInDim S128x128 ![0, 1] bcast_S128x1_S128x128_0_1 (mod4 bcast_S_S128x1 down)))

/-- The rows of which the mask keeps a position. -/
def keepR : IVec S128 1 := Host.reduce IntOp.ori maskR (constantI S_ 1 0#1) reducesTo_S128x128_S128_d1 h_S_

set_option maxRecDepth 16384 in
/-- The block of one position. -/
theorem blockOf_apply (i : Fin 128) : blockOf (ix1 i) = BitVec.ofNat 32 (i.val / 64) := by
  pointwise [blockOf]
  revert i; decide

set_option maxRecDepth 16384 in
/-- The reference's mask at one pair of positions is the kernel's. -/
theorem maskR_apply (i j : Fin 128) : maskR (ix2 i j) = band i j := by
  pointwise [maskR, mod4, four, down, along]
  rw [blockOf_apply, blockOf_apply]
  unfold band
  rcases block_cases i with hi | hi <;> rcases block_cases j with hj | hj <;> rw [hi, hj] <;> decide

/-- A disjunction over a finite set one of whose members is one. -/
theorem fold_or_one {ι : Type} [DecidableEq ι] (s : Finset ι) (a : ι) (ha : a ∈ s) (b : BitVec 1) (f : ι → BitVec 1) (hf : f a = 1#1) :
    s.fold (IntOp.ori : BitVec 1 → BitVec 1 → BitVec 1) b f = 1#1 := by
  rw [← Finset.insert_erase ha, Finset.fold_insert (Finset.notMem_erase _ _), hf]
  exact (by decide : ∀ y : BitVec 1, IntOp.ori 1#1 y = 1#1) _

set_option maxRecDepth 16384 in
/-- Every row is kept, for the mask keeps each position's own. -/
theorem keepR_apply (i : Fin 128) : keepR (ix1 i) = 1#1 := by
  pointwise [keepR]
  exact fold_or_one _ i (Finset.mem_univ _) _ _ (by rw [maskR_apply]; unfold band; rw [decide_eq_true rfl]; rfl)

/-! ## The result -/

section
variable {F : FTy → Type} [FloatOps F]

/-- The scores of every batch, head and pair of positions. -/
def scoreR (X : FVec F S2x128x512 .f32) (Wq : FVec F S512x8192 .f32) (K : FVec F S2x128x128x64 .f32) : FVec F S2x128x128x128 .f32 :=
  select (broadcastInDim S2x128x128x128 ![0, 1, 2, 3] bcast_S1x1x128x128_S2x128x128x128_0_1_2_3
      (broadcastInDim S1x1x128x128 ![2, 3] bcast_S128x128_S1x1x128x128_2_3 maskR))
    (mulf (Host.dotGeneral dot_S2x128x128x64_S2x128x128x64_S2x128x128x128_3_3_1_1_02_02 none
        (shapeCast _ (Host.dotGeneral dot_S2x128x512_S512x8192_S2x128x8192_2_0_01_1_n_n none X Wq) shapeCasts_S2x128x8192_S2x128x128x64) K)
      (broadcastInDim S2x128x128x128 ![] bcast_S_S2x128x128x128 (constant S_ .f32 0x3E000000#32)))
    (broadcastInDim S2x128x128x128 ![] bcast_S_S2x128x128x128 (id (constant S_ .f32 0xCE6E6B28#32)))

/-- The exponentials of the scores less their rows' greatest. -/
def gradeR (X : FVec F S2x128x512 .f32) (Wq : FVec F S512x8192 .f32) (K : FVec F S2x128x128x64 .f32) : FVec F S2x128x128x128 .f32 :=
  Host.exp (subf (scoreR X Wq K) (broadcastInDim S2x128x128x128 ![0, 1, 2, 3] bcast_S2x128x128x1_S2x128x128x128_0_1_2_3
    (broadcastInDim S2x128x128x1 ![0, 1, 2] bcast_S2x128x128_S2x128x128x1_0_1_2
      (Host.reduce FloatOps.maximumf (scoreR X Wq K) (constant S_ .f32 0xFF800000#32) reducesTo_S2x128x128x128_S2x128x128_d3 h_S_))))

/-- The weights: each exponential over its row's sum, in the rows the mask keeps. -/
def weightR (X : FVec F S2x128x512 .f32) (Wq : FVec F S512x8192 .f32) (K : FVec F S2x128x128x64 .f32) : FVec F S2x128x128x128 .f32 :=
  select (broadcastInDim S2x128x128x128 ![0, 1, 2, 3] bcast_S1x1x128x1_S2x128x128x128_0_1_2_3
      (broadcastInDim S1x1x128x1 ![2] bcast_S128_S1x1x128x1_2 keepR))
    (Host.divf (gradeR X Wq K) (broadcastInDim S2x128x128x128 ![0, 1, 2, 3] bcast_S2x128x128x1_S2x128x128x128_0_1_2_3
      (select (broadcastInDim S2x128x128x1 ![0, 1, 2, 3] bcast_S1x1x128x1_S2x128x128x1_0_1_2_3
          (broadcastInDim S1x1x128x1 ![2] bcast_S128_S1x1x128x1_2 keepR))
        (broadcastInDim S2x128x128x1 ![0, 1, 2] bcast_S2x128x128_S2x128x128x1_0_1_2
          (Host.reduceAdd (gradeR X Wq K) (constant S_ .f32 0x00000000#32) reducesTo_S2x128x128x128_S2x128x128_d3 h_S_))
        (broadcastInDim S2x128x128x1 ![] bcast_S_S2x128x128x1 (id (constant S_ .f32 0x3F800000#32))))))
    (broadcastInDim S2x128x128x128 ![] bcast_S_S2x128x128x128 (id (constant S_ .f32 0x00000000#32)))

/-- The attention of every head, the heads side by side. -/
def ctxR (X : FVec F S2x128x512 .f32) (Wq : FVec F S512x8192 .f32) (K V : FVec F S2x128x128x64 .f32) : FVec F S2x128x8192 .f32 :=
  shapeCast _ (transpose S2x128x128x64 [0, 3, 1, 2]
    (Host.dotGeneral dot_S2x128x128x64_S2x128x128x128_S2x128x64x128_1_3_3_2_02_01 none V (weightR X Wq K))
    transposes_S2x128x64x128_S2x128x128x64_0_3_1_2) shapeCasts_S2x128x128x64_S2x128x8192

/-- The reference's composed term is the product of these with the output weights. -/
theorem res_eq (m : (ℓ : Loc nD τ sig) → Buf (Elt F) ℓ) (c : Dev nD) :
    Value.res_main_v39 m c = Host.dotGeneral dot_S2x128x8192_S8192x512_S2x128x512_2_0_01_1_n_n none
      (ctxR (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4)) := rfl
end

/-- A head's query rows: the input's products with the query weights' columns of the head. -/
def queryOf (X : S2x128x512.Idx → EReal) (Wq : S512x8192.Idx → EReal) (b : Fin 2) (h : Fin 128) (i : Fin 128) (e : Fin 64) : EReal :=
  ∑ d : Fin 512, X (ix3 b i d) * Wq (ix2 d (⟨h.val * 64 + e.val, by omega⟩ : Fin 8192))

/-- A head's attention in a batch. -/
def headOut (X : S2x128x512.Idx → EReal) (Wq : S512x8192.Idx → EReal) (K V : S2x128x128x64.Idx → EReal) (b : Fin 2) (h : Fin 128)
    (i : Fin 128) (d : Fin 64) : EReal :=
  attend band (queryOf X Wq b h) (fun j e => K (ix4 b j h e)) (fun j e => V (ix4 b j h e)) i d

open Cert.KernelIdeal.Att (score peak grade) in
set_option maxRecDepth 16384 in
/-- One score. -/
theorem scoreR_apply (X : FVec Ideal S2x128x512 .f32) (Wq : FVec Ideal S512x8192 .f32) (K : FVec Ideal S2x128x128x64 .f32)
    (b : Fin 2) (h i j : Fin 128) : scoreR X Wq K (ix4 b h i j) = score band (queryOf X Wq b h) (fun j e => K (ix4 b j h e)) i j := by
  pointwise [scoreR]
  rw [maskR_apply]
  rfl

open Cert.KernelIdeal.Att (score peak grade) in
set_option maxRecDepth 16384 in
/-- One exponential. -/
theorem gradeR_apply (X : FVec Ideal S2x128x512 .f32) (Wq : FVec Ideal S512x8192 .f32) (K : FVec Ideal S2x128x128x64 .f32)
    (b : Fin 2) (h i j : Fin 128) : gradeR X Wq K (ix4 b h i j) = grade band (queryOf X Wq b h) (fun j e => K (ix4 b j h e)) i j := by
  pointwise [gradeR]
  simp only [scoreR_apply]
  rfl

open Cert.KernelIdeal.Att (score peak grade) in
set_option maxRecDepth 16384 in
/-- One weight. -/
theorem weightR_apply (X : FVec Ideal S2x128x512 .f32) (Wq : FVec Ideal S512x8192 .f32) (K : FVec Ideal S2x128x128x64 .f32)
    (b : Fin 2) (h i j : Fin 128) : weightR X Wq K (ix4 b h i j)
      = Ideal.div (grade band (queryOf X Wq b h) (fun j e => K (ix4 b j h e)) i j)
        (∑ l : Fin 128, grade band (queryOf X Wq b h) (fun j e => K (ix4 b j h e)) i l) := by
  pointwise [weightR]
  simp only [keepR_apply, gradeR_apply]
  rfl

set_option maxRecDepth 16384 in
/-- One entry of the attention. -/
theorem ctxR_apply (X : FVec Ideal S2x128x512 .f32) (Wq : FVec Ideal S512x8192 .f32) (K V : FVec Ideal S2x128x128x64 .f32)
    (b : Fin 2) (i : Fin 128) (k : Fin 8192) : ctxR X Wq K V (ix3 b i k)
      = headOut X Wq K V b ⟨k.val / 64, by omega⟩ i ⟨k.val % 64, by omega⟩ := by
  pointwise [ctxR]
  simp only [weightR_apply]
  exact Finset.sum_congr rfl fun _ _ => mul_comm _ _

set_option maxRecDepth 16384 in
/-- The reference's result at one entry. -/
theorem res_apply (m : (ℓ : Loc nD τ sig) → Buf (Elt Ideal) ℓ) (c : Dev nD) (b : Fin 2) (i : Fin 128) (n : Fin 512) :
    Value.res_main_v39 m c (ix3 b i n) = ∑ k : Fin 8192,
      headOut (m ((c.tc : Thread nD τ).loc main_arg0)) (m ((c.tc : Thread nD τ).loc main_arg1)) (m ((c.tc : Thread nD τ).loc main_arg2))
        (m ((c.tc : Thread nD τ).loc main_arg3)) b ⟨k.val / 64, by omega⟩ i ⟨k.val % 64, by omega⟩
        * (m ((c.tc : Thread nD τ).loc main_arg4) : S8192x512.Idx → EReal) (ix2 k n) := by
  rw [res_eq]
  pointwise
  simp only [ctxR_apply]

end Cert.ReferenceIdeal.Att

end
-- ==== Proof.Value.lean ====
/-
  The kernel's result on every device is the reference's, the query weights' columns and the output weights' rows dealt
  to the devices in blocks.
-/
module

public import proofs.«01_k».proof.Proof.Heads
public import proofs.«01_k».proof.Proof.RefValue
public import proofs.«01_k».proof.Proof.Frames
public import Idealize.ShloMosaic.Lib.Layout

@[expose] public section

set_option synthInstance.maxSize 4096

noncomputable section

namespace Cert.KernelIdeal.Att

open Cert.KernelIdeal Cert.KernelIdeal.Gen Cert.KernelIdeal.Run
open Idealize.ShloMosaic Idealize.ShloMosaic.TcCoe Idealize.SL.Sem
open Cert.ReferenceIdeal.Att (headOut queryOf)

/-! ## What the call finds in the host's buffers, and what the host returns -/

section
variable {F : FTy → Type} [FloatOps F] (m : (ℓ : Loc nD τ sig) → Buf (Elt F) ℓ)

/-- The reshapes before the call write their own results only. -/
theorem V₁_kept (c : Dev nD) (b : Ref sig .tc) (h1 : b ≠ main_v1) (h2 : b ≠ main_v2) :
    V₁ m c (Proc.devRef .tc b) = m ((c : Thread nD τ).loc b) := by
  show StableHlo.after hostOps0 (V₀ m c) (Proc.devRef .tc b) = _
  rw [StableHlo.after_cons, StableHlo.after_cons, StableHlo.after_nil, StableHlo.reshape_result_ne _ _ _ _ _ _ _ h2, StableHlo.reshape_result_ne _ _ _ _ _ _ _ h1]

/-- The flattened keys. -/
theorem kT_eq (c : Dev nD) : kT m c = shapeCast S2x128x8192 (m ((c : Thread nD τ).loc main_arg2)) shapeCasts_S2x128x128x64_S2x128x8192 := by
  show StableHlo.after hostOps0 (V₀ m c) (Proc.devRef .tc main_v1) = _
  rw [StableHlo.after_cons, StableHlo.after_cons, StableHlo.after_nil, StableHlo.reshape_result_ne _ _ _ _ _ _ _ (by decide), StableHlo.reshape_result]
  rfl

/-- The flattened values. -/
theorem vT_eq (c : Dev nD) : vT m c = shapeCast S2x128x8192 (m ((c : Thread nD τ).loc main_arg3)) shapeCasts_S2x128x128x64_S2x128x8192 := by
  show StableHlo.after hostOps0 (V₀ m c) (Proc.devRef .tc main_v2) = _
  rw [StableHlo.after_cons, StableHlo.after_cons, StableHlo.after_nil, StableHlo.reshape_result, StableHlo.reshape_result_ne _ _ _ _ _ _ _ (by decide)]
  rfl

/-- The returned array: the call's result, its rows split by batch. -/
theorem V₃_eq (c : Dev nD) : V₃ m c main_v4 = shapeCast S2x128x512 (OUT m) shapeCasts_S256x512_S2x128x512 := by
  show StableHlo.after hostOps1 (V₂ m c) (Proc.devRef .tc main_v4) = _
  rw [StableHlo.after_cons, StableHlo.after_nil, StableHlo.reshape_result]
  have e : V₂ m c (Proc.devRef .tc main_v3) = OUT m := Function.update_self (Proc.devRef .tc main_v3 : DevRef τ sig) (OUT m) (V₁ m c)
  rw [e]
  rfl
end

/-! ## The devices' blocks of the weights -/

/-- Device `c`'s columns of the query weights. -/
theorem block_cols (v : (⟨2, ![512, 8192]⟩ : Shape).Idx → EReal) (c : Fin 32) (h : Layout.Tiles ⟨2, ![512, 256]⟩ ⟨2, ![512, 8192]⟩ 1 32) (d : Fin 512) (e : Fin 256) :
    Layout.block ⟨2, ![512, 256]⟩ ⟨2, ![512, 8192]⟩ 1 32 c v h (ix2 d e) = v (ix2 d (colOf c e)) :=
  congrArg v (by
    funext a
    refine Fin.ext ((Layout.Tiles.idx_val h c (ix2 d e) a).trans ?_)
    fin_cases a <;> rfl)

/-- Device `c`'s rows of the output weights. -/
theorem block_rows (v : (⟨2, ![8192, 512]⟩ : Shape).Idx → EReal) (c : Fin 32) (h : Layout.Tiles ⟨2, ![256, 512]⟩ ⟨2, ![8192, 512]⟩ 0 32) (e : Fin 256) (n : Fin 512) :
    Layout.block ⟨2, ![256, 512]⟩ ⟨2, ![8192, 512]⟩ 0 32 c v h (ix2 e n) = v (ix2 (colOf c e) n) :=
  congrArg v (by
    funext a
    refine Fin.ext ((Layout.Tiles.idx_val h c (ix2 e n) a).trans ?_)
    fin_cases a <;> rfl)

/-- Head `h` of device `c`, among all. -/
abbrev headAt (c : Dev nD) (h : Fin 4) : Fin 128 := ⟨c.val * 4 + h.val, by have : c.val < 32 := c.isLt; omega⟩

set_option maxRecDepth 16384 in
/-- The flattening of the heads read at a device's column. -/
theorem flat_apply (K : S2x128x128x64.Idx → EReal) (c : Dev nD) (b : Fin 2) (j : Fin 128) (h : Fin 4) (e : Fin 64) :
    shapeCast S2x128x8192 K shapeCasts_S2x128x128x64_S2x128x8192 (ix3 b j (colOf c (inHead h e))) = K (ix4 b j (headAt c h) e) := by
  pointwise
  congr 2
  · exact Fin.ext (by simp only []; omega)
  · exact Fin.ext (by simp only []; omega)

/-! ## The two results are one -/

variable (m : (ℓ : Loc nD τ sig) → Buf (Elt Ideal) ℓ)
variable (X : S2x128x512.Idx → EReal) (Wq : (⟨2, ![512, 8192]⟩ : Shape).Idx → EReal) (K V : S2x128x128x64.Idx → EReal) (Wo : (⟨2, ![8192, 512]⟩ : Shape).Idx → EReal)

/-- Every device holds the whole input, keys and values and its block of either weight. -/
structure Dealt : Prop where
  x : ∀ c : Dev nD, m ((c : Thread nD τ).loc main_arg0) = X
  wq : ∀ c : Dev nD, m ((c : Thread nD τ).loc main_arg1) = Layout.block ⟨2, ![512, 256]⟩ ⟨2, ![512, 8192]⟩ 1 32 c Wq
  k : ∀ c : Dev nD, m ((c : Thread nD τ).loc main_arg2) = K
  v : ∀ c : Dev nD, m ((c : Thread nD τ).loc main_arg3) = V
  wo : ∀ c : Dev nD, m ((c : Thread nD τ).loc main_arg4) = Layout.block ⟨2, ![256, 512]⟩ ⟨2, ![8192, 512]⟩ 0 32 c Wo

variable {m X Wq K V Wo}

/-- A device's head is the reference's. -/
theorem head_same (D : Dealt m X Wq K V Wo) (c : Dev nD) (b : Fin 2) (h : Fin 4) (i : Fin 128) (d : Fin 64) :
    HD m c ⟨b.val * 4 + h.val, by omega⟩ (ix2 i d) = headOut X Wq K V b (headAt c h) i d := by
  have hx : xT m c = X := (V₁_kept m c main_arg0 (by decide) (by decide)).trans (D.x c)
  have hw : wqT m c = Layout.block ⟨2, ![512, 256]⟩ ⟨2, ![512, 8192]⟩ 1 32 c Wq := (V₁_kept m c main_arg1 (by decide) (by decide)).trans (D.wq c)
  have hk : kT m c = shapeCast S2x128x8192 K shapeCasts_S2x128x128x64_S2x128x8192 := (kT_eq m c).trans (by rw [D.k c])
  have hv : vT m c = shapeCast S2x128x8192 V shapeCasts_S2x128x128x64_S2x128x8192 := (vT_eq m c).trans (by rw [D.v c])
  rw [HD_apply, hx, hw, hk, hv]
  simp only [flat_apply, block_cols]
  unfold headOut
  congr 1
  funext a e
  refine Finset.sum_congr rfl fun d _ => ?_
  congr 3
  exact Fin.ext (by simp only []; omega)

/-- A device's partial product is the reference's sum over the device's columns. -/
theorem par_same (D : Dealt m X Wq K V Wo) (c : Dev nD) (b : Fin 2) (i : Fin 128) (n : Fin 512) :
    PAR m c (ix2 (⟨b.val * 128 + i.val, by omega⟩ : Fin 256) n) = ∑ e : Fin 256,
      headOut X Wq K V b ⟨(colOf c e).val / 64, by omega⟩ i ⟨(colOf c e).val % 64, by omega⟩ * Wo (ix2 (colOf c e) n) := by
  have hw : woT m c = Layout.block ⟨2, ![256, 512]⟩ ⟨2, ![8192, 512]⟩ 0 32 c Wo := (V₁_kept m c main_arg4 (by decide) (by decide)).trans (D.wo c)
  rw [PAR_apply, hw]
  refine Finset.sum_congr rfl fun e _ => ?_
  rw [block_rows]
  refine congrArg (· * _) ?_
  obtain ⟨h, d, rfl⟩ : ∃ (h : Fin 4) (d : Fin 64), e = inHead h d :=
    ⟨⟨e.val / 64, by omega⟩, ⟨e.val % 64, by omega⟩, Fin.ext (by show e.val = e.val / 64 * 64 + e.val % 64; omega)⟩
  rw [CTX_apply, head_same D]
  congr 1
  · exact Fin.ext (by simp only []; omega)
  · exact Fin.ext (by simp only []; omega)

set_option maxRecDepth 16384 in
/-- One entry of the returned array. -/
theorem result_apply (D : Dealt m X Wq K V Wo) (c : Dev nD) (b : Fin 2) (i : Fin 128) (n : Fin 512) :
    (V₃ m c main_v4 (ix3 b i n) : EReal) = ∑ k : Fin 8192,
      headOut X Wq K V b ⟨k.val / 64, by omega⟩ i ⟨k.val % 64, by omega⟩ * Wo (ix2 k n) := by
  refine (congrFun (V₃_eq m c) (ix3 b i n)).trans ?_
  have e : shapeCast S2x128x512 (OUT m) shapeCasts_S256x512_S2x128x512 (ix3 b i n) = OUT m (ix2 (⟨b.val * 128 + i.val, by omega⟩ : Fin 256) n) := by
    pointwise
  rw [e, OUT_apply, Fin.sum_univ_tiles 32 256 rfl]
  exact Finset.sum_congr (M := EReal) rfl fun p _ => par_same D p b i n

end Cert.KernelIdeal.Att

namespace Cert.Proof

open Idealize.ShloMosaic Idealize.ShloMosaic.TcCoe Idealize.SL.Sem Cert.KernelIdeal.Run Cert.KernelIdeal.Att

/-- From the reference's arguments dealt to the devices, every device returns what the reference does. -/
theorem algebraic : Cert.algebraic_KernelIdeal_ReferenceIdeal := fun m g m' g' _ h => by
  have D : Dealt m _ _ _ _ _ := ⟨fun c => (h c).1, fun c => (h c).2.1, fun c => (h c).2.2.1, fun c => (h c).2.2.2.1, fun c => (h c).2.2.2.2⟩
  refine ⟨Cert.ReferenceIdeal.Value.res_main_v39 m' 0,
    (θ_run Cert.KernelIdeal.defs _ _).mono (fun r H c => ⟨((H.1 c).1).trans ?_, (H.1 c).2⟩) (run_args (F := Ideal) m g),
    (θ_run Cert.ReferenceIdeal.defs _ _).mono (fun r H => H 0) (Cert.ReferenceIdeal.Value.run (F := Ideal) m' g')⟩
  funext j
  rw [eq_ix3 (n0 := 2) (n1 := 128) (n2 := 512) j]
  exact (result_apply D c _ _ _).trans (Cert.ReferenceIdeal.Att.res_apply m' 0 _ _ _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
